-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_KernelFin (m : (ℓ : Loc Cert.KernelFin.nD Cert.KernelFin.τ Cert.KernelFin.sig) → Buf (Elt Bits) ℓ) : Prop :=
  True

def Pre_KernelFinIdeal (m : (ℓ : Loc Cert.KernelFinIdeal.nD Cert.KernelFinIdeal.τ Cert.KernelFinIdeal.sig) → Buf (Elt Ideal) ℓ) : Prop :=
  True

def Pre_KernelFinIdeal_finite [hPre_finite : Cert.Pre_finite.Facts] (m : (ℓ : Loc Cert.KernelFinIdeal.nD Cert.KernelFinIdeal.τ Cert.KernelFinIdeal.sig) → Buf (Elt Ideal) ℓ) : Prop :=
  ∀ c : Dev Cert.KernelFinIdeal.nD,
    (Cert.Pre_finite.fn (F := Ideal) (m ((c.tc : Thread Cert.KernelFinIdeal.nD Cert.KernelFinIdeal.τ).loc Cert.KernelFinIdeal.main_arg0)) (m ((c.tc : Thread Cert.KernelFinIdeal.nD Cert.KernelFinIdeal.τ).loc Cert.KernelFinIdeal.main_arg1))) = (fun _ => 1#1)

def Pre_ReferenceFinIdeal (m : (ℓ : Loc Cert.ReferenceFinIdeal.nD Cert.ReferenceFinIdeal.τ Cert.ReferenceFinIdeal.sig) → Buf (Elt Ideal) ℓ) : Prop :=
  True

def Pre_ReferenceFinIdeal_finite [hPre_finite : Cert.Pre_finite.Facts] (m : (ℓ : Loc Cert.ReferenceFinIdeal.nD Cert.ReferenceFinIdeal.τ Cert.ReferenceFinIdeal.sig) → Buf (Elt Ideal) ℓ) : Prop :=
  ∀ c : Dev Cert.ReferenceFinIdeal.nD,
    (Cert.Pre_finite.fn (F := Ideal) (m ((c.tc : Thread Cert.ReferenceFinIdeal.nD Cert.ReferenceFinIdeal.τ).loc Cert.ReferenceFinIdeal.main_arg0)) (m ((c.tc : Thread Cert.ReferenceFinIdeal.nD Cert.ReferenceFinIdeal.τ).loc Cert.ReferenceFinIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_KernelFin [hKernelFin : Cert.KernelFin.Facts] : Prop :=
  ∀ (m : (ℓ : Loc Cert.KernelFin.nD Cert.KernelFin.τ Cert.KernelFin.sig) → Buf (Elt Bits) ℓ) (g : Dev Cert.KernelFin.nD → PrngReg), Pre_KernelFin m →
    θ_run (Cert.KernelFin.defs (F := Bits)) (onTc (τ := Cert.KernelFin.τ) (Cert.KernelFin.main (F := Bits))) ⟨m, fun _ => 0, g⟩ (fun r => (∀ c : Dev Cert.KernelFin.nD,
      r.2.mem ((c.tc : Thread Cert.KernelFin.nD Cert.KernelFin.τ).loc Cert.KernelFin.main_arg0) = m ((c.tc : Thread Cert.KernelFin.nD Cert.KernelFin.τ).loc Cert.KernelFin.main_arg0)
      ∧ r.2.mem ((c.tc : Thread Cert.KernelFin.nD Cert.KernelFin.τ).loc Cert.KernelFin.main_arg1) = m ((c.tc : Thread Cert.KernelFin.nD Cert.KernelFin.τ).loc Cert.KernelFin.main_arg1))
      ∧ r.2.sem = fun _ => 0)

def quiescent_KernelFinIdeal [hKernelFinIdeal : Cert.KernelFinIdeal.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ r.2.sem = fun _ => 0)

def quiescent_KernelFinIdeal_pre_finite [hKernelFinIdeal : Cert.KernelFinIdeal.Facts] [hPre_finite : Cert.Pre_finite.Facts] : Prop :=
  ∀ (m : (ℓ : Loc Cert.KernelFinIdeal.nD Cert.KernelFinIdeal.τ Cert.KernelFinIdeal.sig) → Buf (Elt Ideal) ℓ) (g : Dev Cert.KernelFinIdeal.nD → PrngReg), Pre_KernelFinIdeal_finite m →
    θ_run (Cert.KernelFinIdeal.defs (F := Ideal)) (onTc (τ := Cert.KernelFinIdeal.τ) (Cert.KernelFinIdeal.main (F := Ideal))) ⟨m, fun _ => 0, g⟩ (fun r => (∀ c : Dev Cert.KernelFinIdeal.nD,
      r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
      ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ r.2.sem = fun _ => 0)

def quiescent_ReferenceFinIdeal [hReferenceFinIdeal : Cert.ReferenceFinIdeal.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1))
      ∧ r.2.sem = fun _ => 0)

def quiescent_ReferenceFinIdeal_pre_finite [hReferenceFinIdeal : Cert.ReferenceFinIdeal.Facts] [hPre_finite : Cert.Pre_finite.Facts] : Prop :=
  ∀ (m : (ℓ : Loc Cert.ReferenceFinIdeal.nD Cert.ReferenceFinIdeal.τ Cert.ReferenceFinIdeal.sig) → Buf (Elt Ideal) ℓ) (g : Dev Cert.ReferenceFinIdeal.nD → PrngReg), Pre_ReferenceFinIdeal_finite m →
    θ_run (Cert.ReferenceFinIdeal.defs (F := Ideal)) (onTc (τ := Cert.ReferenceFinIdeal.τ) (Cert.ReferenceFinIdeal.main (F := Ideal))) ⟨m, fun _ => 0, g⟩ (fun r => (∀ c : Dev Cert.ReferenceFinIdeal.nD,
      r.2.mem ((c.tc : Thread Cert.ReferenceFinIdeal.nD Cert.ReferenceFinIdeal.τ).loc Cert.ReferenceFinIdeal.main_arg0) = m ((c.tc : Thread Cert.ReferenceFinIdeal.nD Cert.ReferenceFinIdeal.τ).loc Cert.ReferenceFinIdeal.main_arg0)
      ∧ r.2.mem ((c.tc : Thread Cert.ReferenceFinIdeal.nD Cert.ReferenceFinIdeal.τ).loc Cert.ReferenceFinIdeal.main_arg1) = m ((c.tc : Thread Cert.ReferenceFinIdeal.nD Cert.ReferenceFinIdeal.τ).loc Cert.ReferenceFinIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices) = v0 c
          ∧ r.2.mem ((c.tc : Thread Cert.ReferenceIdeal.nD Cert.ReferenceIdeal.τ).loc Cert.ReferenceIdeal.main_v133) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_KernelFin_KernelFinIdeal : Prop :=
  True

def algebraic_KernelFinIdeal_ReferenceFinIdeal_pre_finite [hKernelFinIdeal : Cert.KernelFinIdeal.Facts] [hReferenceFinIdeal : Cert.ReferenceFinIdeal.Facts] [hPre_finite : Cert.Pre_finite.Facts] : Prop :=
  ∀ (m : (ℓ : Loc Cert.KernelFinIdeal.nD Cert.KernelFinIdeal.τ Cert.KernelFinIdeal.sig) → Buf (Elt Ideal) ℓ) (g : Dev Cert.KernelFinIdeal.nD → PrngReg)
    (m' : (ℓ : Loc Cert.ReferenceFinIdeal.nD Cert.ReferenceFinIdeal.τ Cert.ReferenceFinIdeal.sig) → Buf (Elt Ideal) ℓ) (g' : Dev Cert.ReferenceFinIdeal.nD → PrngReg), Pre_KernelFinIdeal_finite m →
    (∀ c : Dev Cert.KernelFinIdeal.nD,
      m' ((c.tc : Thread Cert.ReferenceFinIdeal.nD Cert.ReferenceFinIdeal.τ).loc Cert.ReferenceFinIdeal.main_arg0) = m ((c.tc : Thread Cert.KernelFinIdeal.nD Cert.KernelFinIdeal.τ).loc Cert.KernelFinIdeal.main_arg0)
      ∧ m' ((c.tc : Thread Cert.ReferenceFinIdeal.nD Cert.ReferenceFinIdeal.τ).loc Cert.ReferenceFinIdeal.main_arg1) = m ((c.tc : Thread Cert.KernelFinIdeal.nD Cert.KernelFinIdeal.τ).loc Cert.KernelFinIdeal.main_arg1)) →
    ∃ (v0 : (c : Dev Cert.KernelFinIdeal.nD) → Buf (Elt Ideal) ((c.tc : Thread Cert.KernelFinIdeal.nD Cert.KernelFinIdeal.τ).loc Cert.KernelFinIdeal.main_v0_0)) (v1 : (c : Dev Cert.KernelFinIdeal.nD) → Buf (Elt Ideal) ((c.tc : Thread Cert.KernelFinIdeal.nD Cert.KernelFinIdeal.τ).loc Cert.KernelFinIdeal.main_v0_1)),
      θ_run (Cert.KernelFinIdeal.defs (F := Ideal)) (onTc (τ := Cert.KernelFinIdeal.τ) (Cert.KernelFinIdeal.main (F := Ideal))) ⟨m, fun _ => 0, g⟩ (fun r => ∀ c : Dev Cert.KernelFinIdeal.nD,
          r.2.mem ((c.tc : Thread Cert.KernelFinIdeal.nD Cert.KernelFinIdeal.τ).loc Cert.KernelFinIdeal.main_v0_0) = v0 c
          ∧ r.2.mem ((c.tc : Thread Cert.KernelFinIdeal.nD Cert.KernelFinIdeal.τ).loc Cert.KernelFinIdeal.main_v0_1) = v1 c
          ∧ r.2.mem ((c.tc : Thread Cert.KernelFinIdeal.nD Cert.KernelFinIdeal.τ).loc Cert.KernelFinIdeal.main_arg0) = m ((c.tc : Thread Cert.KernelFinIdeal.nD Cert.KernelFinIdeal.τ).loc Cert.KernelFinIdeal.main_arg0)
          ∧ r.2.mem ((c.tc : Thread Cert.KernelFinIdeal.nD Cert.KernelFinIdeal.τ).loc Cert.KernelFinIdeal.main_arg1) = m ((c.tc : Thread Cert.KernelFinIdeal.nD Cert.KernelFinIdeal.τ).loc Cert.KernelFinIdeal.main_arg1))
      ∧ θ_run (Cert.ReferenceFinIdeal.defs (F := Ideal)) (onTc (τ := Cert.ReferenceFinIdeal.τ) (Cert.ReferenceFinIdeal.main (F := Ideal))) ⟨m', fun _ => 0, g'⟩ (fun r => ∀ c : Dev Cert.ReferenceFinIdeal.nD,
          r.2.mem ((c.tc : Thread Cert.ReferenceFinIdeal.nD Cert.ReferenceFinIdeal.τ).loc Cert.ReferenceFinIdeal.main_indices) = v0 c
          ∧ r.2.mem ((c.tc : Thread Cert.ReferenceFinIdeal.nD Cert.ReferenceFinIdeal.τ).loc Cert.ReferenceFinIdeal.main_v136) = v1 c
          ∧ r.2.mem ((c.tc : Thread Cert.ReferenceFinIdeal.nD Cert.ReferenceFinIdeal.τ).loc Cert.ReferenceFinIdeal.main_arg0) = m' ((c.tc : Thread Cert.ReferenceFinIdeal.nD Cert.ReferenceFinIdeal.τ).loc Cert.ReferenceFinIdeal.main_arg0)
          ∧ r.2.mem ((c.tc : Thread Cert.ReferenceFinIdeal.nD Cert.ReferenceFinIdeal.τ).loc Cert.ReferenceFinIdeal.main_arg1) = m' ((c.tc : Thread Cert.ReferenceFinIdeal.nD Cert.ReferenceFinIdeal.τ).loc Cert.ReferenceFinIdeal.main_arg1))

def Claim : Prop :=
  ∃ (hKernel : Cert.Kernel.Facts) (hKernelIdeal : Cert.KernelIdeal.Facts) (hReferenceIdeal : Cert.ReferenceIdeal.Facts) (hKernelFin : Cert.KernelFin.Facts) (hKernelFinIdeal : Cert.KernelFinIdeal.Facts) (hReferenceFinIdeal : Cert.ReferenceFinIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelFin (hKernelFin := hKernelFin)
    ∧ quiescent_KernelFinIdeal (hKernelFinIdeal := hKernelFinIdeal)
    ∧ quiescent_KernelFinIdeal_pre_finite (hKernelFinIdeal := hKernelFinIdeal) (hPre_finite := hPre_finite)
    ∧ quiescent_ReferenceFinIdeal (hReferenceFinIdeal := hReferenceFinIdeal)
    ∧ quiescent_ReferenceFinIdeal_pre_finite (hReferenceFinIdeal := hReferenceFinIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelFin_KernelFinIdeal
    ∧ algebraic_KernelFinIdeal_ReferenceFinIdeal_pre_finite (hKernelFinIdeal := hKernelFinIdeal) (hReferenceFinIdeal := hReferenceFinIdeal) (hPre_finite := hPre_finite)
-- ==== Pre_finite.lean ====
abbrev S10000x3 : Shape := ⟨2, ![10000, 3]⟩
abbrev S1 : Shape := ⟨1, ![1]⟩
abbrev S_ : Shape := ⟨0, ![]⟩

class Facts : Prop where
  bcast_S_S10000x3 : S_.BroadcastsInDim S10000x3 (![] : Fin 0 → Fin S10000x3.rank)

variable [Facts]

def fn {F : FTy → Type} [FloatOps F] (main_arg0 : FVec F S10000x3 .f32) (main_arg1 : IVec S1 32) : IVec S10000x3 1 :=
  let main_v0 : FVec F S10000x3 .f32 := Host.absf main_arg0
  let main_cst : FVec F S_ .f32 := constant S_ .f32 0x7F800000#32
  let main_v1 : FVec F S10000x3 .f32 := broadcastInDim S10000x3 ![] bcast_S_S10000x3 main_cst
  let main_v2 : IVec S10000x3 1 := cmpf .olt main_v0 main_v1
  main_v2
-- ==== Kernel.lean ====
abbrev S10000x3 : Shape := ⟨2, ![10000, 3]⟩
abbrev S1 : Shape := ⟨1, ![1]⟩
abbrev S3x3 : Shape := ⟨2, ![3, 3]⟩
abbrev S_ : Shape := ⟨0, ![]⟩
abbrev S10240x3 : Shape := ⟨2, ![10240, 3]⟩
abbrev S10000 : Shape := ⟨1, ![10000]⟩
abbrev S10240 : Shape := ⟨1, ![10240]⟩
abbrev S80x128x3 : Shape := ⟨3, ![80, 128, 3]⟩
abbrev S80x3x128 : Shape := ⟨3, ![80, 3, 128]⟩
abbrev S80x384 : Shape := ⟨2, ![80, 384]⟩
abbrev S3x10240 : Shape := ⟨2, ![3, 10240]⟩
abbrev S10240x1 : Shape := ⟨2, ![10240, 1]⟩
abbrev S1x10240 : Shape := ⟨2, ![1, 10240]⟩
abbrev S10240x9 : Shape := ⟨2, ![10240, 9]⟩
abbrev S10000x9 : Shape := ⟨2, ![10000, 9]⟩
abbrev S256x3 : Shape := ⟨2, ![256, 3]⟩
abbrev S256x1 : Shape := ⟨2, ![256, 1]⟩
abbrev S256x9 : Shape := ⟨2, ![256, 9]⟩
abbrev S256x10240 : Shape := ⟨2, ![256, 10240]⟩
abbrev S256x80 : Shape := ⟨2, ![256, 80]⟩
abbrev S256x128 : Shape := ⟨2, ![256, 128]⟩
abbrev S256 : Shape := ⟨1, ![256]⟩
abbrev S256x384 : Shape := ⟨2, ![256, 384]⟩
abbrev S256x8 : Shape := ⟨2, ![256, 8]⟩

abbrev nBuf : Space → Nat
  | .hbm => 25
  | .vmem => 12
  | .smem => 0
  | _ => 0

abbrev bufTy : (tb : Table) → Fin (tcTables nBuf tb) → BufTy
  | .hbm, ⟨0, _⟩ => ⟨S10000x3, .f32⟩
  | .hbm, ⟨1, _⟩ => ⟨S1, .i32⟩
  | .hbm, ⟨2, _⟩ => ⟨S3x3, .f32⟩
  | .hbm, ⟨3, _⟩ => ⟨S_, .i32⟩
  | .hbm, ⟨4, _⟩ => ⟨S_, .f32⟩
  | .hbm, ⟨5, _⟩ => ⟨S10240x3, .f32⟩
  | .hbm, ⟨6, _⟩ => ⟨S10000x3, .f32⟩
  | .hbm, ⟨7, _⟩ => ⟨S_, .f32⟩
  | .hbm, ⟨8, _⟩ => ⟨S10000, .f32⟩
  | .hbm, ⟨9, _⟩ => ⟨S_, .i32⟩
  | .hbm, ⟨10, _⟩ => ⟨S_, .f32⟩
  | .hbm, ⟨11, _⟩ => ⟨S10240, .f32⟩
  | .hbm, ⟨12, _⟩ => ⟨S_, .f32⟩
  | .hbm, ⟨13, _⟩ => ⟨S_, .f32⟩
  | .hbm, ⟨14, _⟩ => ⟨S10240, .f32⟩
  | .hbm, ⟨15, _⟩ => ⟨S80x128x3, .f32⟩
  | .hbm, ⟨16, _⟩ => ⟨S80x3x128, .f32⟩
  | .hbm, ⟨17, _⟩ => ⟨S80x384, .f32⟩
  | .hbm, ⟨18, _⟩ => ⟨S3x10240, .f32⟩
  | .hbm, ⟨19, _⟩ => ⟨S10240x1, .f32⟩
  | .hbm, ⟨20, _⟩ => ⟨S1x10240, .f32⟩
  | .hbm, ⟨21, _⟩ => ⟨S10240x9, .i32⟩
  | .hbm, ⟨22, _⟩ => ⟨S10240x3, .f32⟩
  | .hbm, ⟨23, _⟩ => ⟨S10000x9, .i32⟩
  | .hbm, ⟨24, _⟩ => ⟨S10000x3, .f32⟩
  | .local _ .vmem, ⟨0, _⟩ => ⟨S256x3, .f32⟩
  | .local _ .vmem, ⟨1, _⟩ => ⟨S256x3, .f32⟩
  | .local _ .vmem, ⟨2, _⟩ => ⟨S3x10240, .f32⟩
  | .local _ .vmem, ⟨3, _⟩ => ⟨S256x1, .f32⟩
  | .local _ .vmem, ⟨4, _⟩ => ⟨S256x1, .f32⟩
  | .local _ .vmem, ⟨5, _⟩ => ⟨S1x10240, .f32⟩
  | .local _ .vmem, ⟨6, _⟩ => ⟨S80x384, .f32⟩
  | .local _ .vmem, ⟨7, _⟩ => ⟨S3x3, .f32⟩
  | .local _ .vmem, ⟨8, _⟩ => ⟨S256x9, .i32⟩
  | .local _ .vmem, ⟨9, _⟩ => ⟨S256x9, .i32⟩
  | .local _ .vmem, ⟨10, _⟩ => ⟨S256x3, .f32⟩
  | .local _ .vmem, ⟨11, _⟩ => ⟨S256x3, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_c : Ref sig .tc := ⟨.hbm, 3, rfl⟩
abbrev main_call0_call0_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_c_1 : Ref sig .tc := ⟨.hbm, 9, rfl⟩
abbrev main_call0_call1_v0 : Ref sig .tc := ⟨.hbm, 10, rfl⟩
abbrev main_call0_v3 : Ref sig .tc := ⟨.hbm, 11, rfl⟩
abbrev main_call0_cst_2 : Ref sig .tc := ⟨.hbm, 12, rfl⟩
abbrev main_call0_call2_v0 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11_0 : Ref sig .tc := ⟨.hbm, 21, rfl⟩
abbrev main_call0_v11_1 : Ref sig .tc := ⟨.hbm, 22, rfl⟩
abbrev main_v0_0 : Ref sig .tc := ⟨.hbm, 23, rfl⟩
abbrev main_v0_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x9 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S10000x3 : Shape := ⟨2, ![10000, 3]⟩
abbrev S1 : Shape := ⟨1, ![1]⟩
abbrev S3x3 : Shape := ⟨2, ![3, 3]⟩
abbrev S3x10000 : Shape := ⟨2, ![3, 10000]⟩
abbrev S10000x10000 : Shape := ⟨2, ![10000, 10000]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x9 : Shape := ⟨2, ![10000, 9]⟩
abbrev S90000 : Shape := ⟨1, ![90000]⟩
abbrev S90000x1 : Shape := ⟨2, ![90000, 1]⟩
abbrev S1x1 : Shape := ⟨2, ![1, 1]⟩
abbrev S90000x3 : Shape := ⟨2, ![90000, 3]⟩
abbrev S10000x9x3 : Shape := ⟨3, ![10000, 9, 3]⟩
abbrev S10000x1x3 : Shape := ⟨3, ![10000, 1, 3]⟩
abbrev S10000x9x1 : Shape := ⟨3, ![10000, 9, 1]⟩
abbrev S1x1x1 : Shape := ⟨3, ![1, 1, 1]⟩
abbrev S10000x9x1x3 : Shape := ⟨4, ![10000, 9, 1, 3]⟩
abbrev S10000x8x1x3 : Shape := ⟨4, ![10000, 8, 1, 3]⟩
abbrev S10000x1x1x3 : Shape := ⟨4, ![10000, 1, 1, 3]⟩
abbrev S10000x9x3x3 : Shape := ⟨4, ![10000, 9, 3, 3]⟩
abbrev S10000x1x1 : Shape := ⟨3, ![10000, 1, 1]⟩

abbrev nBuf : Space → Nat
  | .hbm => 242
  | .vmem => 0
  | .smem => 0
  | _ => 0

abbrev hbmTy0_0 (i : Nat) : BufTy := match i % 128 with
  | 0 => ⟨S10000x3, .f32⟩
  | 1 => ⟨S1, .i32⟩
  | 2 => ⟨S3x3, .f32⟩
  | 3 => ⟨S3x10000, .f32⟩
  | 4 => ⟨S10000x10000, .f32⟩
  | 5 => ⟨S10000x3, .f32⟩
  | 6 => ⟨S_, .f32⟩
  | 7 => ⟨S10000, .f32⟩
  | 8 => ⟨S10000x1, .f32⟩
  | 9 => ⟨S10000x3, .f32⟩
  | 10 => ⟨S_, .f32⟩
  | 11 => ⟨S10000, .f32⟩
  | 12 => ⟨S1x10000, .f32⟩
  | 13 => ⟨S_, .f32⟩
  | 14 => ⟨S10000x10000, .f32⟩
  | 15 => ⟨S10000x10000, .f32⟩
  | 16 => ⟨S10000x10000, .f32⟩
  | 17 => ⟨S10000x10000, .f32⟩
  | 18 => ⟨S10000x10000, .f32⟩
  | 19 => ⟨S10000x10000, .f32⟩
  | 20 => ⟨S_, .f32⟩
  | 21 => ⟨S10000x10000, .f32⟩
  | 22 => ⟨S10000x10000, .f32⟩
  | 23 => ⟨S10000x10000, .f32⟩
  | 24 => ⟨S10000x10000, .f32⟩
  | 25 => ⟨S10000x9, .f32⟩
  | 26 => ⟨S10000x9, .i32⟩
  | 27 => ⟨S90000, .i32⟩
  | 28 => ⟨S_, .i32⟩
  | 29 => ⟨S90000, .i32⟩
  | 30 => ⟨S90000, .i1⟩
  | 31 => ⟨S_, .i32⟩
  | 32 => ⟨S90000, .i32⟩
  | 33 => ⟨S90000, .i32⟩
  | 34 => ⟨S90000, .i32⟩
  | 35 => ⟨S90000x1, .i32⟩
  | 36 => ⟨S1, .i32⟩
  | 37 => ⟨S_, .i32⟩
  | 38 => ⟨S90000x1, .i32⟩
  | 39 => ⟨S90000x1, .i1⟩
  | 40 => ⟨S1x1, .i32⟩
  | 41 => ⟨S90000x1, .i32⟩
  | 42 => ⟨S90000x1, .i1⟩
  | 43 => ⟨S90000x1, .i1⟩
  | 44 => ⟨S_, .i1⟩
  | 45 => ⟨S90000, .i1⟩
  | 46 => ⟨S90000x3, .f32⟩
  | 47 => ⟨S90000x3, .i1⟩
  | 48 => ⟨S_, .f32⟩
  | 49 => ⟨S90000x3, .f32⟩
  | 50 => ⟨S90000x3, .f32⟩
  | 51 => ⟨S10000x9x3, .f32⟩
  | 52 => ⟨S10000x1x3, .f32⟩
  | 53 => ⟨S10000x9x3, .f32⟩
  | 54 => ⟨S10000x9x3, .f32⟩
  | 55 => ⟨S10000x9x3, .f32⟩
  | 56 => ⟨S10000x9x1, .f32⟩
  | 57 => ⟨S10000x9, .f32⟩
  | 58 => ⟨S10000x9x1, .f32⟩
  | 59 => ⟨S10000x9, .f32⟩
  | 60 => ⟨S10000x9, .f32⟩
  | 61 => ⟨S_, .f32⟩
  | 62 => ⟨S10000x9, .f32⟩
  | 63 => ⟨S10000x9, .f32⟩
  | 64 => ⟨S_, .f32⟩
  | 65 => ⟨S10000x9, .f32⟩
  | 66 => ⟨S10000x9, .f32⟩
  | 67 => ⟨S10000x9, .i32⟩
  | 68 => ⟨S10000x9, .f32⟩
  | 69 => ⟨S10000x9, .i32⟩
  | 70 => ⟨S10000x9x1, .i32⟩
  | 71 => ⟨S_, .i32⟩
  | 72 => ⟨S10000x9x1, .i32⟩
  | 73 => ⟨S10000x9x1, .i1⟩
  | 74 => ⟨S_, .i32⟩
  | 75 => ⟨S10000x9x1, .i32⟩
  | 76 => ⟨S10000x9x1, .i32⟩
  | 77 => ⟨S10000x9x1, .i32⟩
  | 78 => ⟨S1, .i32⟩
  | 79 => ⟨S_, .i32⟩
  | 80 => ⟨S10000x9x1, .i32⟩
  | 81 => ⟨S10000x9x1, .i1⟩
  | 82 => ⟨S1x1x1, .i32⟩
  | 83 => ⟨S10000x9x1, .i32⟩
  | 84 => ⟨S10000x9x1, .i1⟩
  | 85 => ⟨S10000x9x1, .i1⟩
  | 86 => ⟨S_, .i1⟩
  | 87 => ⟨S10000x9, .i1⟩
  | 88 => ⟨S10000x9x3, .f32⟩
  | 89 => ⟨S10000x9x3, .i1⟩
  | 90 => ⟨S_, .f32⟩
  | 91 => ⟨S10000x9x3, .f32⟩
  | 92 => ⟨S10000x9x3, .f32⟩
  | 93 => ⟨S10000x9x1x3, .f32⟩
  | 94 => ⟨S10000x8x1x3, .f32⟩
  | 95 => ⟨S10000x1x1x3, .f32⟩
  | 96 => ⟨S10000x9x1x3, .f32⟩
  | 97 => ⟨S_, .f32⟩
  | 98 => ⟨S10000x9x1x3, .f32⟩
  | 99 => ⟨S10000x9x3x3, .f32⟩
  | 100 => ⟨S10000x9x1x3, .f32⟩
  | 101 => ⟨S10000x9x3, .f32⟩
  | 102 => ⟨S10000x9x1x3, .f32⟩
  | 103 => ⟨S10000x9x3, .f32⟩
  | 104 => ⟨S10000x9x3, .f32⟩
  | 105 => ⟨S10000x9x1x3, .f32⟩
  | 106 => ⟨S10000x9x3, .f32⟩
  | 107 => ⟨S10000x9x1x3, .f32⟩
  | 108 => ⟨S10000x9x3, .f32⟩
  | 109 => ⟨S10000x9x3, .f32⟩
  | 110 => ⟨S10000x9x1, .f32⟩
  | 111 => ⟨S10000x9, .f32⟩
  | 112 => ⟨S10000x9x1, .f32⟩
  | 113 => ⟨S10000x9, .f32⟩
  | 114 => ⟨S10000x9, .f32⟩
  | 115 => ⟨S10000x9x1, .f32⟩
  | 116 => ⟨S10000x9, .f32⟩
  | 117 => ⟨S10000x9x1, .f32⟩
  | 118 => ⟨S10000x9, .f32⟩
  | 119 => ⟨S10000x9, .f32⟩
  | 120 => ⟨S10000x9, .f32⟩
  | 121 => ⟨S10000x9x1, .f32⟩
  | 122 => ⟨S10000x9, .f32⟩
  | 123 => ⟨S10000x9x1, .f32⟩
  | 124 => ⟨S10000x9, .f32⟩
  | 125 => ⟨S10000x9, .f32⟩
  | 126 => ⟨S10000x9x1, .f32⟩
  | 127 => ⟨S10000x9, .f32⟩
  | _ => ⟨S10000x3, .f32⟩

abbrev hbmTy0_1 (i : Nat) : BufTy := match i % 128 with
  | 0 => ⟨S10000x9x1, .f32⟩
  | 1 => ⟨S10000x9, .f32⟩
  | 2 => ⟨S10000x9, .f32⟩
  | 3 => ⟨S10000x9, .f32⟩
  | 4 => ⟨S10000x9x1, .f32⟩
  | 5 => ⟨S10000x9, .f32⟩
  | 6 => ⟨S10000x9x1, .f32⟩
  | 7 => ⟨S10000x9, .f32⟩
  | 8 => ⟨S10000x9, .f32⟩
  | 9 => ⟨S10000x9x1, .f32⟩
  | 10 => ⟨S10000x9, .f32⟩
  | 11 => ⟨S10000x9x1, .f32⟩
  | 12 => ⟨S10000x9, .f32⟩
  | 13 => ⟨S10000x9, .f32⟩
  | 14 => ⟨S10000x9, .f32⟩
  | 15 => ⟨S10000x9x1, .f32⟩
  | 16 => ⟨S10000x9x1, .f32⟩
  | 17 => ⟨S10000x9x1, .f32⟩
  | 18 => ⟨S10000x9x3, .f32⟩
  | 19 => ⟨S10000x9x3, .f32⟩
  | 20 => ⟨S_, .f32⟩
  | 21 => ⟨S10000x9, .f32⟩
  | 22 => ⟨S10000x9x1, .f32⟩
  | 23 => ⟨S10000x9x1, .f32⟩
  | 24 => ⟨S_, .f32⟩
  | 25 => ⟨S10000x9x1, .f32⟩
  | 26 => ⟨S10000x9x1, .i1⟩
  | 27 => ⟨S_, .f32⟩
  | 28 => ⟨S_, .f32⟩
  | 29 => ⟨S10000x9x1, .f32⟩
  | 30 => ⟨S10000x9x1, .f32⟩
  | 31 => ⟨S10000x9x3, .f32⟩
  | 32 => ⟨S10000x9x3, .f32⟩
  | 33 => ⟨S_, .f32⟩
  | 34 => ⟨S_, .f32⟩
  | 35 => ⟨S10000x9x3, .i1⟩
  | 36 => ⟨S10000x9x3, .f32⟩
  | 37 => ⟨S10000x9x3, .f32⟩
  | 38 => ⟨S10000x1x1, .f32⟩
  | 39 => ⟨S10000, .f32⟩
  | 40 => ⟨S_, .f32⟩
  | 41 => ⟨S10000, .f32⟩
  | 42 => ⟨S10000, .i1⟩
  | 43 => ⟨S_, .f32⟩
  | 44 => ⟨S_, .f32⟩
  | 45 => ⟨S10000, .f32⟩
  | 46 => ⟨S10000, .f32⟩
  | 47 => ⟨S10000, .f32⟩
  | 48 => ⟨S10000x1x1, .f32⟩
  | 49 => ⟨S10000x1x1, .f32⟩
  | 50 => ⟨S10000x9x3, .f32⟩
  | 51 => ⟨S10000x9x3, .f32⟩
  | 52 => ⟨S_, .f32⟩
  | 53 => ⟨S10000x9x1, .f32⟩
  | 54 => ⟨S10000x9x1, .f32⟩
  | 55 => ⟨S10000x9x3, .i1⟩
  | 56 => ⟨S10000x9x3, .i32⟩
  | 57 => ⟨S_, .i32⟩
  | 58 => ⟨S10000x9, .i32⟩
  | 59 => ⟨S_, .i32⟩
  | 60 => ⟨S10000x9, .i32⟩
  | 61 => ⟨S10000x9, .i1⟩
  | 62 => ⟨S10000x9, .i1⟩
  | 63 => ⟨S10000x9, .i32⟩
  | 64 => ⟨S10000x1, .i32⟩
  | 65 => ⟨S10000x1, .i32⟩
  | 66 => ⟨S10000x1x1, .i32⟩
  | 67 => ⟨S_, .i32⟩
  | 68 => ⟨S10000x1x1, .i32⟩
  | 69 => ⟨S10000x1x1, .i1⟩
  | 70 => ⟨S_, .i32⟩
  | 71 => ⟨S10000x1x1, .i32⟩
  | 72 => ⟨S10000x1x1, .i32⟩
  | 73 => ⟨S10000x1x1, .i32⟩
  | 74 => ⟨S1, .i32⟩
  | 75 => ⟨S_, .i32⟩
  | 76 => ⟨S10000x1x1, .i32⟩
  | 77 => ⟨S10000x1x1, .i1⟩
  | 78 => ⟨S1x1x1, .i32⟩
  | 79 => ⟨S10000x1x1, .i32⟩
  | 80 => ⟨S10000x1x1, .i1⟩
  | 81 => ⟨S10000x1x1, .i1⟩
  | 82 => ⟨S_, .i1⟩
  | 83 => ⟨S10000x1, .i1⟩
  | 84 => ⟨S10000x1x3, .f32⟩
  | 85 => ⟨S10000x1x3, .i1⟩
  | 86 => ⟨S_, .f32⟩
  | 87 => ⟨S10000x1x3, .f32⟩
  | 88 => ⟨S10000x1x3, .f32⟩
  | 89 => ⟨S10000x9x1, .i1⟩
  | 90 => ⟨S10000x9x3, .f32⟩
  | 91 => ⟨S10000x9x3, .i1⟩
  | 92 => ⟨S10000x9x3, .f32⟩
  | 93 => ⟨S_, .f32⟩
  | 94 => ⟨S10000x9x1, .f32⟩
  | 95 => ⟨S10000x9x1, .f32⟩
  | 96 => ⟨S_, .f32⟩
  | 97 => ⟨S10000x1, .f32⟩
  | 98 => ⟨S_, .f32⟩
  | 99 => ⟨S10000x1, .f32⟩
  | 100 => ⟨S10000x1, .f32⟩
  | 101 => ⟨S10000x1x1, .f32⟩
  | 102 => ⟨S10000x9x1, .f32⟩
  | 103 => ⟨S10000x9x1, .f32⟩
  | 104 => ⟨S10000x9x1, .f32⟩
  | 105 => ⟨S_, .f32⟩
  | 106 => ⟨S10000x1, .f32⟩
  | 107 => ⟨S10000x1x1, .f32⟩
  | 108 => ⟨S10000x9x1, .f32⟩
  | 109 => ⟨S10000x9x1, .f32⟩
  | 110 => ⟨S10000x9x3, .f32⟩
  | 111 => ⟨S10000x9x3, .f32⟩
  | 112 => ⟨S_, .f32⟩
  | 113 => ⟨S10000x3, .f32⟩
  | _ => ⟨S10000x3, .f32⟩

abbrev hbmTy (i : Nat) : BufTy := match i / 128 with
  | 0 => hbmTy0_0 i
  | 1 => hbmTy0_1 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_v18 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_call1_v0 : Ref sig .tc := ⟨.hbm, 67, rfl⟩
abbrev main_call1_v1_0 : Ref sig .tc := ⟨.hbm, 68, rfl⟩
abbrev main_v34 : Ref sig .tc := ⟨.hbm, 69, rfl⟩
abbrev main_v35 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_1 : Ref sig .tc := ⟨.hbm, 78, rfl⟩
abbrev main_call2_c_2 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_c_3 : Ref sig .tc := ⟨.hbm, 86, rfl⟩
abbrev main_call2_v11 : Ref sig .tc := ⟨.hbm, 87, rfl⟩
abbrev main_call2_v12 : Ref sig .tc := ⟨.hbm, 88, rfl⟩
abbrev main_call2_v13 : Ref sig .tc := ⟨.hbm, 89, rfl⟩
abbrev main_call2_cst : Ref sig .tc := ⟨.hbm, 90, rfl⟩
abbrev main_call2_v14 : Ref sig .tc := ⟨.hbm, 91, rfl⟩
abbrev main_v36 : Ref sig .tc := ⟨.hbm, 92, rfl⟩
abbrev main_v37 : Ref sig .tc := ⟨.hbm, 93, rfl⟩
abbrev main_call3_v0 : Ref sig .tc := ⟨.hbm, 94, rfl⟩
abbrev main_call3_v1 : Ref sig .tc := ⟨.hbm, 95, rfl⟩
abbrev main_v38 : Ref sig .tc := ⟨.hbm, 96, rfl⟩
abbrev main_cst_6 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_call4_v0 : Ref sig .tc := ⟨.hbm, 147, rfl⟩
abbrev main_call4_cst : Ref sig .tc := ⟨.hbm, 148, rfl⟩
abbrev main_call4_v1 : Ref sig .tc := ⟨.hbm, 149, rfl⟩
abbrev main_call4_v2 : Ref sig .tc := ⟨.hbm, 150, rfl⟩
abbrev main_v88 : Ref sig .tc := ⟨.hbm, 151, rfl⟩
abbrev main_cst_7 : Ref sig .tc := ⟨.hbm, 152, rfl⟩
abbrev main_v89 : Ref sig .tc := ⟨.hbm, 153, rfl⟩
abbrev main_v90 : Ref sig .tc := ⟨.hbm, 154, rfl⟩
abbrev main_cst_8 : Ref sig .tc := ⟨.hbm, 155, rfl⟩
abbrev main_call5_v0 : Ref sig .tc := ⟨.hbm, 156, rfl⟩
abbrev main_call5_v1 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_9 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_10 : Ref sig .tc := ⟨.hbm, 168, rfl⟩
abbrev main_v97 : Ref sig .tc := ⟨.hbm, 169, rfl⟩
abbrev main_v98 : Ref sig .tc := ⟨.hbm, 170, rfl⟩
abbrev main_cst_11 : Ref sig .tc := ⟨.hbm, 171, rfl⟩
abbrev main_cst_12 : Ref sig .tc := ⟨.hbm, 172, rfl⟩
abbrev main_call7_v0 : Ref sig .tc := ⟨.hbm, 173, rfl⟩
abbrev main_call7_v1 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_cst_13 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_c : Ref sig .tc := ⟨.hbm, 185, rfl⟩
abbrev main_v108 : Ref sig .tc := ⟨.hbm, 186, rfl⟩
abbrev main_c_14 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_values_15 : Ref sig .tc := ⟨.hbm, 192, rfl⟩
abbrev main_indices_16 : Ref sig .tc := ⟨.hbm, 193, rfl⟩
abbrev main_v113 : Ref sig .tc := ⟨.hbm, 194, rfl⟩
abbrev main_call8_c : Ref sig .tc := ⟨.hbm, 195, rfl⟩
abbrev main_call8_v0 : Ref sig .tc := ⟨.hbm, 196, rfl⟩
abbrev main_call8_v1 : Ref sig .tc := ⟨.hbm, 197, rfl⟩
abbrev main_call8_c_0 : Ref sig .tc := ⟨.hbm, 198, rfl⟩
abbrev main_call8_v2 : Ref sig .tc := ⟨.hbm, 199, rfl⟩
abbrev main_call8_v3 : Ref sig .tc := ⟨.hbm, 200, rfl⟩
abbrev main_call8_v4 : Ref sig .tc := ⟨.hbm, 201, rfl⟩
abbrev main_call8_c_1 : Ref sig .tc := ⟨.hbm, 202, rfl⟩
abbrev main_call8_c_2 : Ref sig .tc := ⟨.hbm, 203, rfl⟩
abbrev main_call8_v5 : Ref sig .tc := ⟨.hbm, 204, rfl⟩
abbrev main_call8_v6 : Ref sig .tc := ⟨.hbm, 205, rfl⟩
abbrev main_call8_v7 : Ref sig .tc := ⟨.hbm, 206, rfl⟩
abbrev main_call8_v8 : Ref sig .tc := ⟨.hbm, 207, rfl⟩
abbrev main_call8_v9 : Ref sig .tc := ⟨.hbm, 208, rfl⟩
abbrev main_call8_v10 : Ref sig .tc := ⟨.hbm, 209, rfl⟩
abbrev main_call8_c_3 : Ref sig .tc := ⟨.hbm, 210, rfl⟩
abbrev main_call8_v11 : Ref sig .tc := ⟨.hbm, 211, rfl⟩
abbrev main_call8_v12 : Ref sig .tc := ⟨.hbm, 212, rfl⟩
abbrev main_call8_v13 : Ref sig .tc := ⟨.hbm, 213, rfl⟩
abbrev main_call8_cst : Ref sig .tc := ⟨.hbm, 214, rfl⟩
abbrev main_call8_v14 : Ref sig .tc := ⟨.hbm, 215, rfl⟩
abbrev main_v114 : Ref sig .tc := ⟨.hbm, 216, rfl⟩
abbrev main_v115 : Ref sig .tc := ⟨.hbm, 217, rfl⟩
abbrev main_v116 : Ref sig .tc := ⟨.hbm, 218, rfl⟩
abbrev main_call9_v0 : Ref sig .tc := ⟨.hbm, 219, rfl⟩
abbrev main_v117 : Ref sig .tc := ⟨.hbm, 220, rfl⟩
abbrev main_cst_17 : Ref sig .tc := ⟨.hbm, 221, rfl⟩
abbrev main_v118 : Ref sig .tc := ⟨.hbm, 222, rfl⟩
abbrev main_v119 : Ref sig .tc := ⟨.hbm, 223, rfl⟩
abbrev main_cst_18 : Ref sig .tc := ⟨.hbm, 224, rfl⟩
abbrev main_v120 : Ref sig .tc := ⟨.hbm, 225, rfl⟩
abbrev main_cst_19 : Ref sig .tc := ⟨.hbm, 226, rfl⟩
abbrev main_v121 : Ref sig .tc := ⟨.hbm, 227, rfl⟩
abbrev main_v122 : Ref sig .tc := ⟨.hbm, 228, rfl⟩
abbrev main_v123 : Ref sig .tc := ⟨.hbm, 229, rfl⟩
abbrev main_v124 : Ref sig .tc := ⟨.hbm, 230, rfl⟩
abbrev main_v125 : Ref sig .tc := ⟨.hbm, 231, rfl⟩
abbrev main_v126 : Ref sig .tc := ⟨.hbm, 232, rfl⟩
abbrev main_cst_20 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_v130 : Ref sig .tc := ⟨.hbm, 237, rfl⟩
abbrev main_v131 : Ref sig .tc := ⟨.hbm, 238, rfl⟩
abbrev main_v132 : Ref sig .tc := ⟨.hbm, 239, rfl⟩
abbrev main_cst_21 : Ref sig .tc := ⟨.hbm, 240, rfl⟩
abbrev main_v133 : Ref sig .tc := ⟨.hbm, 241, rfl⟩

abbrev nD : Nat := 1
abbrev τ : Topo := Topo.v7x

variable {F : FTy → Type} [FloatOps F]
-- ==== KernelFin.lean ====
abbrev S10000x3 : Shape := ⟨2, ![10000, 3]⟩
abbrev S1 : Shape := ⟨1, ![1]⟩
abbrev S3x3 : Shape := ⟨2, ![3, 3]⟩
abbrev S_ : Shape := ⟨0, ![]⟩
abbrev S10240x3 : Shape := ⟨2, ![10240, 3]⟩
abbrev S10000 : Shape := ⟨1, ![10000]⟩
abbrev S10240 : Shape := ⟨1, ![10240]⟩
abbrev S80x128x3 : Shape := ⟨3, ![80, 128, 3]⟩
abbrev S80x3x128 : Shape := ⟨3, ![80, 3, 128]⟩
abbrev S80x384 : Shape := ⟨2, ![80, 384]⟩
abbrev S3x10240 : Shape := ⟨2, ![3, 10240]⟩
abbrev S10240x1 : Shape := ⟨2, ![10240, 1]⟩
abbrev S1x10240 : Shape := ⟨2, ![1, 10240]⟩
abbrev S10240x9 : Shape := ⟨2, ![10240, 9]⟩
abbrev S10000x9 : Shape := ⟨2, ![10000, 9]⟩
abbrev S256x3 : Shape := ⟨2, ![256, 3]⟩
abbrev S256x1 : Shape := ⟨2, ![256, 1]⟩
abbrev S256x9 : Shape := ⟨2, ![256, 9]⟩
abbrev S256x10240 : Shape := ⟨2, ![256, 10240]⟩
abbrev S256x80 : Shape := ⟨2, ![256, 80]⟩
abbrev S256x128 : Shape := ⟨2, ![256, 128]⟩
abbrev S256 : Shape := ⟨1, ![256]⟩
abbrev S256x384 : Shape := ⟨2, ![256, 384]⟩
abbrev S256x8 : Shape := ⟨2, ![256, 8]⟩

abbrev nBuf : Space → Nat
  | .hbm => 25
  | .vmem => 12
  | .smem => 0
  | _ => 0

abbrev bufTy : (tb : Table) → Fin (tcTables nBuf tb) → BufTy
  | .hbm, ⟨0, _⟩ => ⟨S10000x3, .f32⟩
  | .hbm, ⟨1, _⟩ => ⟨S1, .i32⟩
  | .hbm, ⟨2, _⟩ => ⟨S3x3, .f32⟩
  | .hbm, ⟨3, _⟩ => ⟨S_, .i32⟩
  | .hbm, ⟨4, _⟩ => ⟨S_, .f32⟩
  | .hbm, ⟨5, _⟩ => ⟨S10240x3, .f32⟩
  | .hbm, ⟨6, _⟩ => ⟨S10000x3, .f32⟩
  | .hbm, ⟨7, _⟩ => ⟨S_, .f32⟩
  | .hbm, ⟨8, _⟩ => ⟨S10000, .f32⟩
  | .hbm, ⟨9, _⟩ => ⟨S_, .i32⟩
  | .hbm, ⟨10, _⟩ => ⟨S_, .f32⟩
  | .hbm, ⟨11, _⟩ => ⟨S10240, .f32⟩
  | .hbm, ⟨12, _⟩ => ⟨S_, .f32⟩
  | .hbm, ⟨13, _⟩ => ⟨S_, .f32⟩
  | .hbm, ⟨14, _⟩ => ⟨S10240, .f32⟩
  | .hbm, ⟨15, _⟩ => ⟨S80x128x3, .f32⟩
  | .hbm, ⟨16, _⟩ => ⟨S80x3x128, .f32⟩
  | .hbm, ⟨17, _⟩ => ⟨S80x384, .f32⟩
  | .hbm, ⟨18, _⟩ => ⟨S3x10240, .f32⟩
  | .hbm, ⟨19, _⟩ => ⟨S10240x1, .f32⟩
  | .hbm, ⟨20, _⟩ => ⟨S1x10240, .f32⟩
  | .hbm, ⟨21, _⟩ => ⟨S10240x9, .i32⟩
  | .hbm, ⟨22, _⟩ => ⟨S10240x3, .f32⟩
  | .hbm, ⟨23, _⟩ => ⟨S10000x9, .i32⟩
  | .hbm, ⟨24, _⟩ => ⟨S10000x3, .f32⟩
  | .local _ .vmem, ⟨0, _⟩ => ⟨S256x3, .f32⟩
  | .local _ .vmem, ⟨1, _⟩ => ⟨S256x3, .f32⟩
  | .local _ .vmem, ⟨2, _⟩ => ⟨S3x10240, .f32⟩
  | .local _ .vmem, ⟨3, _⟩ => ⟨S256x1, .f32⟩
  | .local _ .vmem, ⟨4, _⟩ => ⟨S256x1, .f32⟩
  | .local _ .vmem, ⟨5, _⟩ => ⟨S1x10240, .f32⟩
  | .local _ .vmem, ⟨6, _⟩ => ⟨S80x384, .f32⟩
  | .local _ .vmem, ⟨7, _⟩ => ⟨S3x3, .f32⟩
  | .local _ .vmem, ⟨8, _⟩ => ⟨S256x9, .i32⟩
  | .local _ .vmem, ⟨9, _⟩ => ⟨S256x9, .i32⟩
  | .local _ .vmem, ⟨10, _⟩ => ⟨S256x3, .f32⟩
  | .local _ .vmem, ⟨11, _⟩ => ⟨S256x3, .f32⟩
  | _, _ => ⟨S10000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_c : Ref sig .tc := ⟨.hbm, 3, rfl⟩
abbrev main_call0_call0_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst_0 : Ref sig .tc := ⟨.hbm, 7, rfl⟩
abbrev main_call0_v2 : Ref sig .tc := ⟨.hbm, 8, rfl⟩
abbrev main_call0_c_1 : Ref sig .tc := ⟨.hbm, 9, rfl⟩
abbrev main_call0_call1_v0 : Ref sig .tc := ⟨.hbm, 10, rfl⟩
abbrev main_call0_v3 : Ref sig .tc := ⟨.hbm, 11, rfl⟩
abbrev main_call0_cst_2 : Ref sig .tc := ⟨.hbm, 12, rfl⟩
abbrev main_call0_call2_v0 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11_0 : Ref sig .tc := ⟨.hbm, 21, rfl⟩
abbrev main_call0_v11_1 : Ref sig .tc := ⟨.hbm, 22, rfl⟩
abbrev main_v0_0 : Ref sig .tc := ⟨.hbm, 23, rfl⟩
abbrev main_v0_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x9 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceFinIdeal.lean ====
abbrev S10000x3 : Shape := ⟨2, ![10000, 3]⟩
abbrev S1 : Shape := ⟨1, ![1]⟩
abbrev S3x3 : Shape := ⟨2, ![3, 3]⟩
abbrev S3x10000 : Shape := ⟨2, ![3, 10000]⟩
abbrev S10000x10000 : Shape := ⟨2, ![10000, 10000]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S10000x9 : Shape := ⟨2, ![10000, 9]⟩
abbrev S90000 : Shape := ⟨1, ![90000]⟩
abbrev S90000x1 : Shape := ⟨2, ![90000, 1]⟩
abbrev S1x1 : Shape := ⟨2, ![1, 1]⟩
abbrev S90000x3 : Shape := ⟨2, ![90000, 3]⟩
abbrev S10000x9x3 : Shape := ⟨3, ![10000, 9, 3]⟩
abbrev S10000x1x3 : Shape := ⟨3, ![10000, 1, 3]⟩
abbrev S10000x9x1 : Shape := ⟨3, ![10000, 9, 1]⟩
abbrev S1x1x1 : Shape := ⟨3, ![1, 1, 1]⟩
abbrev S10000x9x1x3 : Shape := ⟨4, ![10000, 9, 1, 3]⟩
abbrev S10000x8x1x3 : Shape := ⟨4, ![10000, 8, 1, 3]⟩
abbrev S10000x1x1x3 : Shape := ⟨4, ![10000, 1, 1, 3]⟩
abbrev S10000x9x3x3 : Shape := ⟨4, ![10000, 9, 3, 3]⟩
abbrev S10000x1x1 : Shape := ⟨3, ![10000, 1, 1]⟩

abbrev nBuf : Space → Nat
  | .hbm => 246
  | .vmem => 0
  | .smem => 0
  | _ => 0

abbrev hbmTy0_0 (i : Nat) : BufTy := match i % 128 with
  | 0 => ⟨S10000x3, .f32⟩
  | 1 => ⟨S1, .i32⟩
  | 2 => ⟨S3x3, .f32⟩
  | 3 => ⟨S3x10000, .f32⟩
  | 4 => ⟨S10000x10000, .f32⟩
  | 5 => ⟨S10000x3, .f32⟩
  | 6 => ⟨S_, .f32⟩
  | 7 => ⟨S10000, .f32⟩
  | 8 => ⟨S10000x1, .f32⟩
  | 9 => ⟨S10000x3, .f32⟩
  | 10 => ⟨S_, .f32⟩
  | 11 => ⟨S10000, .f32⟩
  | 12 => ⟨S1x10000, .f32⟩
  | 13 => ⟨S_, .f32⟩
  | 14 => ⟨S10000x10000, .f32⟩
  | 15 => ⟨S10000x10000, .f32⟩
  | 16 => ⟨S10000x10000, .f32⟩
  | 17 => ⟨S10000x10000, .f32⟩
  | 18 => ⟨S10000x10000, .f32⟩
  | 19 => ⟨S10000x10000, .f32⟩
  | 20 => ⟨S_, .f32⟩
  | 21 => ⟨S10000x10000, .f32⟩
  | 22 => ⟨S10000x10000, .f32⟩
  | 23 => ⟨S10000x10000, .f32⟩
  | 24 => ⟨S10000x10000, .f32⟩
  | 25 => ⟨S10000x9, .f32⟩
  | 26 => ⟨S10000x9, .i32⟩
  | 27 => ⟨S90000, .i32⟩
  | 28 => ⟨S_, .i32⟩
  | 29 => ⟨S90000, .i32⟩
  | 30 => ⟨S90000, .i1⟩
  | 31 => ⟨S_, .i32⟩
  | 32 => ⟨S90000, .i32⟩
  | 33 => ⟨S90000, .i32⟩
  | 34 => ⟨S90000, .i32⟩
  | 35 => ⟨S90000x1, .i32⟩
  | 36 => ⟨S1, .i32⟩
  | 37 => ⟨S_, .i32⟩
  | 38 => ⟨S90000x1, .i32⟩
  | 39 => ⟨S90000x1, .i1⟩
  | 40 => ⟨S1x1, .i32⟩
  | 41 => ⟨S90000x1, .i32⟩
  | 42 => ⟨S90000x1, .i1⟩
  | 43 => ⟨S90000x1, .i1⟩
  | 44 => ⟨S_, .i1⟩
  | 45 => ⟨S90000, .i1⟩
  | 46 => ⟨S90000x3, .f32⟩
  | 47 => ⟨S90000x3, .i1⟩
  | 48 => ⟨S_, .f32⟩
  | 49 => ⟨S90000x3, .f32⟩
  | 50 => ⟨S90000x3, .f32⟩
  | 51 => ⟨S10000x9x3, .f32⟩
  | 52 => ⟨S10000x1x3, .f32⟩
  | 53 => ⟨S10000x9x3, .f32⟩
  | 54 => ⟨S10000x9x3, .f32⟩
  | 55 => ⟨S10000x9x3, .f32⟩
  | 56 => ⟨S10000x9x1, .f32⟩
  | 57 => ⟨S10000x9, .f32⟩
  | 58 => ⟨S10000x9x1, .f32⟩
  | 59 => ⟨S10000x9, .f32⟩
  | 60 => ⟨S10000x9, .f32⟩
  | 61 => ⟨S_, .f32⟩
  | 62 => ⟨S10000x9, .f32⟩
  | 63 => ⟨S10000x9, .f32⟩
  | 64 => ⟨S_, .f32⟩
  | 65 => ⟨S10000x9, .f32⟩
  | 66 => ⟨S10000x9, .f32⟩
  | 67 => ⟨S10000x9, .i32⟩
  | 68 => ⟨S10000x9, .f32⟩
  | 69 => ⟨S10000x9, .i32⟩
  | 70 => ⟨S10000x9x1, .i32⟩
  | 71 => ⟨S_, .i32⟩
  | 72 => ⟨S10000x9x1, .i32⟩
  | 73 => ⟨S10000x9x1, .i1⟩
  | 74 => ⟨S_, .i32⟩
  | 75 => ⟨S10000x9x1, .i32⟩
  | 76 => ⟨S10000x9x1, .i32⟩
  | 77 => ⟨S10000x9x1, .i32⟩
  | 78 => ⟨S1, .i32⟩
  | 79 => ⟨S_, .i32⟩
  | 80 => ⟨S10000x9x1, .i32⟩
  | 81 => ⟨S10000x9x1, .i1⟩
  | 82 => ⟨S1x1x1, .i32⟩
  | 83 => ⟨S10000x9x1, .i32⟩
  | 84 => ⟨S10000x9x1, .i1⟩
  | 85 => ⟨S10000x9x1, .i1⟩
  | 86 => ⟨S_, .i1⟩
  | 87 => ⟨S10000x9, .i1⟩
  | 88 => ⟨S10000x9x3, .f32⟩
  | 89 => ⟨S10000x9x3, .i1⟩
  | 90 => ⟨S_, .f32⟩
  | 91 => ⟨S10000x9x3, .f32⟩
  | 92 => ⟨S10000x9x3, .f32⟩
  | 93 => ⟨S10000x9x1x3, .f32⟩
  | 94 => ⟨S10000x8x1x3, .f32⟩
  | 95 => ⟨S10000x1x1x3, .f32⟩
  | 96 => ⟨S10000x9x1x3, .f32⟩
  | 97 => ⟨S_, .f32⟩
  | 98 => ⟨S10000x9x1x3, .f32⟩
  | 99 => ⟨S10000x9x3x3, .f32⟩
  | 100 => ⟨S10000x9x1x3, .f32⟩
  | 101 => ⟨S10000x9x3, .f32⟩
  | 102 => ⟨S10000x9x1x3, .f32⟩
  | 103 => ⟨S10000x9x3, .f32⟩
  | 104 => ⟨S10000x9x3, .f32⟩
  | 105 => ⟨S10000x9x1x3, .f32⟩
  | 106 => ⟨S10000x9x3, .f32⟩
  | 107 => ⟨S10000x9x1x3, .f32⟩
  | 108 => ⟨S10000x9x3, .f32⟩
  | 109 => ⟨S10000x9x3, .f32⟩
  | 110 => ⟨S10000x9x1, .f32⟩
  | 111 => ⟨S10000x9, .f32⟩
  | 112 => ⟨S10000x9x1, .f32⟩
  | 113 => ⟨S10000x9, .f32⟩
  | 114 => ⟨S10000x9, .f32⟩
  | 115 => ⟨S10000x9x1, .f32⟩
  | 116 => ⟨S10000x9, .f32⟩
  | 117 => ⟨S10000x9x1, .f32⟩
  | 118 => ⟨S10000x9, .f32⟩
  | 119 => ⟨S10000x9, .f32⟩
  | 120 => ⟨S10000x9, .f32⟩
  | 121 => ⟨S10000x9x1, .f32⟩
  | 122 => ⟨S10000x9, .f32⟩
  | 123 => ⟨S10000x9x1, .f32⟩
  | 124 => ⟨S10000x9, .f32⟩
  | 125 => ⟨S10000x9, .f32⟩
  | 126 => ⟨S10000x9x1, .f32⟩
  | 127 => ⟨S10000x9, .f32⟩
  | _ => ⟨S10000x3, .f32⟩

abbrev hbmTy0_1 (i : Nat) : BufTy := match i % 128 with
  | 0 => ⟨S10000x9x1, .f32⟩
  | 1 => ⟨S10000x9, .f32⟩
  | 2 => ⟨S10000x9, .f32⟩
  | 3 => ⟨S10000x9, .f32⟩
  | 4 => ⟨S10000x9x1, .f32⟩
  | 5 => ⟨S10000x9, .f32⟩
  | 6 => ⟨S10000x9x1, .f32⟩
  | 7 => ⟨S10000x9, .f32⟩
  | 8 => ⟨S10000x9, .f32⟩
  | 9 => ⟨S10000x9x1, .f32⟩
  | 10 => ⟨S10000x9, .f32⟩
  | 11 => ⟨S10000x9x1, .f32⟩
  | 12 => ⟨S10000x9, .f32⟩
  | 13 => ⟨S10000x9, .f32⟩
  | 14 => ⟨S10000x9, .f32⟩
  | 15 => ⟨S10000x9x1, .f32⟩
  | 16 => ⟨S10000x9x1, .f32⟩
  | 17 => ⟨S10000x9x1, .f32⟩
  | 18 => ⟨S10000x9x3, .f32⟩
  | 19 => ⟨S10000x9x3, .f32⟩
  | 20 => ⟨S_, .f32⟩
  | 21 => ⟨S10000x9, .f32⟩
  | 22 => ⟨S10000x9x1, .f32⟩
  | 23 => ⟨S10000x9x1, .f32⟩
  | 24 => ⟨S_, .f32⟩
  | 25 => ⟨S10000x9x1, .f32⟩
  | 26 => ⟨S10000x9x1, .i1⟩
  | 27 => ⟨S_, .f32⟩
  | 28 => ⟨S_, .f32⟩
  | 29 => ⟨S10000x9x1, .f32⟩
  | 30 => ⟨S10000x9x1, .f32⟩
  | 31 => ⟨S10000x9x3, .f32⟩
  | 32 => ⟨S10000x9x3, .f32⟩
  | 33 => ⟨S_, .f32⟩
  | 34 => ⟨S_, .f32⟩
  | 35 => ⟨S10000x9x3, .i1⟩
  | 36 => ⟨S10000x9x3, .f32⟩
  | 37 => ⟨S10000x9x3, .f32⟩
  | 38 => ⟨S10000x1x1, .f32⟩
  | 39 => ⟨S10000, .f32⟩
  | 40 => ⟨S_, .f32⟩
  | 41 => ⟨S10000, .f32⟩
  | 42 => ⟨S10000, .i1⟩
  | 43 => ⟨S_, .f32⟩
  | 44 => ⟨S_, .f32⟩
  | 45 => ⟨S10000, .f32⟩
  | 46 => ⟨S10000, .f32⟩
  | 47 => ⟨S10000, .f32⟩
  | 48 => ⟨S10000x1x1, .f32⟩
  | 49 => ⟨S10000x1x1, .f32⟩
  | 50 => ⟨S10000x9x3, .f32⟩
  | 51 => ⟨S10000x9x3, .f32⟩
  | 52 => ⟨S_, .f32⟩
  | 53 => ⟨S10000x9x1, .f32⟩
  | 54 => ⟨S10000x9x1, .f32⟩
  | 55 => ⟨S10000x9x3, .f32⟩
  | 56 => ⟨S_, .f32⟩
  | 57 => ⟨S10000x9x3, .f32⟩
  | 58 => ⟨S10000x9x3, .i1⟩
  | 59 => ⟨S10000x9x3, .i1⟩
  | 60 => ⟨S10000x9x3, .i32⟩
  | 61 => ⟨S_, .i32⟩
  | 62 => ⟨S10000x9, .i32⟩
  | 63 => ⟨S_, .i32⟩
  | 64 => ⟨S10000x9, .i32⟩
  | 65 => ⟨S10000x9, .i1⟩
  | 66 => ⟨S10000x9, .i1⟩
  | 67 => ⟨S10000x9, .i32⟩
  | 68 => ⟨S10000x1, .i32⟩
  | 69 => ⟨S10000x1, .i32⟩
  | 70 => ⟨S10000x1x1, .i32⟩
  | 71 => ⟨S_, .i32⟩
  | 72 => ⟨S10000x1x1, .i32⟩
  | 73 => ⟨S10000x1x1, .i1⟩
  | 74 => ⟨S_, .i32⟩
  | 75 => ⟨S10000x1x1, .i32⟩
  | 76 => ⟨S10000x1x1, .i32⟩
  | 77 => ⟨S10000x1x1, .i32⟩
  | 78 => ⟨S1, .i32⟩
  | 79 => ⟨S_, .i32⟩
  | 80 => ⟨S10000x1x1, .i32⟩
  | 81 => ⟨S10000x1x1, .i1⟩
  | 82 => ⟨S1x1x1, .i32⟩
  | 83 => ⟨S10000x1x1, .i32⟩
  | 84 => ⟨S10000x1x1, .i1⟩
  | 85 => ⟨S10000x1x1, .i1⟩
  | 86 => ⟨S_, .i1⟩
  | 87 => ⟨S10000x1, .i1⟩
  | 88 => ⟨S10000x1x3, .f32⟩
  | 89 => ⟨S10000x1x3, .i1⟩
  | 90 => ⟨S_, .f32⟩
  | 91 => ⟨S10000x1x3, .f32⟩
  | 92 => ⟨S10000x1x3, .f32⟩
  | 93 => ⟨S10000x9x1, .i1⟩
  | 94 => ⟨S10000x9x3, .f32⟩
  | 95 => ⟨S10000x9x3, .i1⟩
  | 96 => ⟨S10000x9x3, .f32⟩
  | 97 => ⟨S_, .f32⟩
  | 98 => ⟨S10000x9x1, .f32⟩
  | 99 => ⟨S10000x9x1, .f32⟩
  | 100 => ⟨S_, .f32⟩
  | 101 => ⟨S10000x1, .f32⟩
  | 102 => ⟨S_, .f32⟩
  | 103 => ⟨S10000x1, .f32⟩
  | 104 => ⟨S10000x1, .f32⟩
  | 105 => ⟨S10000x1x1, .f32⟩
  | 106 => ⟨S10000x9x1, .f32⟩
  | 107 => ⟨S10000x9x1, .f32⟩
  | 108 => ⟨S10000x9x1, .f32⟩
  | 109 => ⟨S_, .f32⟩
  | 110 => ⟨S10000x1, .f32⟩
  | 111 => ⟨S10000x1x1, .f32⟩
  | 112 => ⟨S10000x9x1, .f32⟩
  | 113 => ⟨S10000x9x1, .f32⟩
  | 114 => ⟨S10000x9x3, .f32⟩
  | 115 => ⟨S10000x9x3, .f32⟩
  | 116 => ⟨S_, .f32⟩
  | 117 => ⟨S10000x3, .f32⟩
  | _ => ⟨S10000x3, .f32⟩

abbrev hbmTy (i : Nat) : BufTy := match i / 128 with
  | 0 => hbmTy0_0 i
  | 1 => hbmTy0_1 i
  | _ => ⟨S10000x3, .f32⟩

abbrev bufTy : (tb : Table) → Fin (tcTables nBuf tb) → BufTy
  | .hbm, ⟨i, _⟩ => hbmTy i
  | _, _ => ⟨S10000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_values : Ref sig .tc := ⟨.hbm, 25, rfl⟩
abbrev main_indices : Ref sig .tc := ⟨.hbm, 26, rfl⟩
abbrev main_v18 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_cst_4 : Ref sig .tc := ⟨.hbm, 61, rfl⟩
abbrev main_v30 : Ref sig .tc := ⟨.hbm, 62, rfl⟩
abbrev main_v31 : Ref sig .tc := ⟨.hbm, 63, rfl⟩
abbrev main_cst_5 : Ref sig .tc := ⟨.hbm, 64, rfl⟩
abbrev main_v32 : Ref sig .tc := ⟨.hbm, 65, rfl⟩
abbrev main_v33 : Ref sig .tc := ⟨.hbm, 66, rfl⟩
abbrev main_call1_v0 : Ref sig .tc := ⟨.hbm, 67, rfl⟩
abbrev main_call1_v1_0 : Ref sig .tc := ⟨.hbm, 68, rfl⟩
abbrev main_v34 : Ref sig .tc := ⟨.hbm, 69, rfl⟩
abbrev main_v35 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_1 : Ref sig .tc := ⟨.hbm, 78, rfl⟩
abbrev main_call2_c_2 : Ref sig .tc := ⟨.hbm, 79, rfl⟩
abbrev main_call2_v5 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_c_3 : Ref sig .tc := ⟨.hbm, 86, rfl⟩
abbrev main_call2_v11 : Ref sig .tc := ⟨.hbm, 87, rfl⟩
abbrev main_call2_v12 : Ref sig .tc := ⟨.hbm, 88, rfl⟩
abbrev main_call2_v13 : Ref sig .tc := ⟨.hbm, 89, rfl⟩
abbrev main_call2_cst : Ref sig .tc := ⟨.hbm, 90, rfl⟩
abbrev main_call2_v14 : Ref sig .tc := ⟨.hbm, 91, rfl⟩
abbrev main_v36 : Ref sig .tc := ⟨.hbm, 92, rfl⟩
abbrev main_v37 : Ref sig .tc := ⟨.hbm, 93, rfl⟩
abbrev main_call3_v0 : Ref sig .tc := ⟨.hbm, 94, rfl⟩
abbrev main_call3_v1 : Ref sig .tc := ⟨.hbm, 95, rfl⟩
abbrev main_v38 : Ref sig .tc := ⟨.hbm, 96, rfl⟩
abbrev main_cst_6 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_v64 : Ref sig .tc := ⟨.hbm, 123, rfl⟩
abbrev main_v65 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_call4_v0 : Ref sig .tc := ⟨.hbm, 147, rfl⟩
abbrev main_call4_cst : Ref sig .tc := ⟨.hbm, 148, rfl⟩
abbrev main_call4_v1 : Ref sig .tc := ⟨.hbm, 149, rfl⟩
abbrev main_call4_v2 : Ref sig .tc := ⟨.hbm, 150, rfl⟩
abbrev main_v88 : Ref sig .tc := ⟨.hbm, 151, rfl⟩
abbrev main_cst_7 : Ref sig .tc := ⟨.hbm, 152, rfl⟩
abbrev main_v89 : Ref sig .tc := ⟨.hbm, 153, rfl⟩
abbrev main_v90 : Ref sig .tc := ⟨.hbm, 154, rfl⟩
abbrev main_cst_8 : Ref sig .tc := ⟨.hbm, 155, rfl⟩
abbrev main_call5_v0 : Ref sig .tc := ⟨.hbm, 156, rfl⟩
abbrev main_call5_v1 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_cst_9 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v94 : Ref sig .tc := ⟨.hbm, 165, rfl⟩
abbrev main_v95 : Ref sig .tc := ⟨.hbm, 166, rfl⟩
abbrev main_v96 : Ref sig .tc := ⟨.hbm, 167, rfl⟩
abbrev main_cst_10 : Ref sig .tc := ⟨.hbm, 168, rfl⟩
abbrev main_v97 : Ref sig .tc := ⟨.hbm, 169, rfl⟩
abbrev main_v98 : Ref sig .tc := ⟨.hbm, 170, rfl⟩
abbrev main_cst_11 : Ref sig .tc := ⟨.hbm, 171, rfl⟩
abbrev main_cst_12 : Ref sig .tc := ⟨.hbm, 172, rfl⟩
abbrev main_call7_v0 : Ref sig .tc := ⟨.hbm, 173, rfl⟩
abbrev main_call7_v1 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩
abbrev main_v102 : Ref sig .tc := ⟨.hbm, 178, rfl⟩
abbrev main_v103 : Ref sig .tc := ⟨.hbm, 179, rfl⟩
abbrev main_cst_13 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_cst_14 : Ref sig .tc := ⟨.hbm, 184, rfl⟩
abbrev main_v107 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_c : Ref sig .tc := ⟨.hbm, 189, rfl⟩
abbrev main_v111 : Ref sig .tc := ⟨.hbm, 190, rfl⟩
abbrev main_c_15 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_v115 : Ref sig .tc := ⟨.hbm, 195, rfl⟩
abbrev main_values_16 : Ref sig .tc := ⟨.hbm, 196, rfl⟩
abbrev main_indices_17 : Ref sig .tc := ⟨.hbm, 197, rfl⟩
abbrev main_v116 : Ref sig .tc := ⟨.hbm, 198, rfl⟩
abbrev main_call8_c : Ref sig .tc := ⟨.hbm, 199, rfl⟩
abbrev main_call8_v0 : Ref sig .tc := ⟨.hbm, 200, rfl⟩
abbrev main_call8_v1 : Ref sig .tc := ⟨.hbm, 201, rfl⟩
abbrev main_call8_c_0 : Ref sig .tc := ⟨.hbm, 202, rfl⟩
abbrev main_call8_v2 : Ref sig .tc := ⟨.hbm, 203, rfl⟩
abbrev main_call8_v3 : Ref sig .tc := ⟨.hbm, 204, rfl⟩
abbrev main_call8_v4 : Ref sig .tc := ⟨.hbm, 205, rfl⟩
abbrev main_call8_c_1 : Ref sig .tc := ⟨.hbm, 206, rfl⟩
abbrev main_call8_c_2 : Ref sig .tc := ⟨.hbm, 207, rfl⟩
abbrev main_call8_v5 : Ref sig .tc := ⟨.hbm, 208, rfl⟩
abbrev main_call8_v6 : Ref sig .tc := ⟨.hbm, 209, rfl⟩
abbrev main_call8_v7 : Ref sig .tc := ⟨.hbm, 210, rfl⟩
abbrev main_call8_v8 : Ref sig .tc := ⟨.hbm, 211, rfl⟩
abbrev main_call8_v9 : Ref sig .tc := ⟨.hbm, 212, rfl⟩
abbrev main_call8_v10 : Ref sig .tc := ⟨.hbm, 213, rfl⟩
abbrev main_call8_c_3 : Ref sig .tc := ⟨.hbm, 214, rfl⟩
abbrev main_call8_v11 : Ref sig .tc := ⟨.hbm, 215, rfl⟩
abbrev main_call8_v12 : Ref sig .tc := ⟨.hbm, 216, rfl⟩
abbrev main_call8_v13 : Ref sig .tc := ⟨.hbm, 217, rfl⟩
abbrev main_call8_cst : Ref sig .tc := ⟨.hbm, 218, rfl⟩
abbrev main_call8_v14 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_call9_v0 : Ref sig .tc := ⟨.hbm, 223, rfl⟩
abbrev main_v120 : Ref sig .tc := ⟨.hbm, 224, rfl⟩
abbrev main_cst_18 : Ref sig .tc := ⟨.hbm, 225, rfl⟩
abbrev main_v121 : Ref sig .tc := ⟨.hbm, 226, rfl⟩
abbrev main_v122 : Ref sig .tc := ⟨.hbm, 227, rfl⟩
abbrev main_cst_19 : Ref sig .tc := ⟨.hbm, 228, rfl⟩
abbrev main_v123 : Ref sig .tc := ⟨.hbm, 229, rfl⟩
abbrev main_cst_20 : Ref sig .tc := ⟨.hbm, 230, rfl⟩
abbrev main_v124 : Ref sig .tc := ⟨.hbm, 231, rfl⟩
abbrev main_v125 : Ref sig .tc := ⟨.hbm, 232, rfl⟩
abbrev main_v126 : Ref sig .tc := ⟨.hbm, 233, rfl⟩
abbrev main_v127 : Ref sig .tc := ⟨.hbm, 234, rfl⟩
abbrev main_v128 : Ref sig .tc := ⟨.hbm, 235, rfl⟩
abbrev main_v129 : Ref sig .tc := ⟨.hbm, 236, rfl⟩
abbrev main_cst_21 : Ref sig .tc := ⟨.hbm, 237, rfl⟩
abbrev main_v130 : Ref sig .tc := ⟨.hbm, 238, rfl⟩
abbrev main_v131 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_v135 : Ref sig .tc := ⟨.hbm, 243, rfl⟩
abbrev main_cst_22 : Ref sig .tc := ⟨.hbm, 244, rfl⟩
abbrev main_v136 : Ref sig .tc := ⟨.hbm, 245, rfl⟩

abbrev nD : Nat := 1
abbrev τ : Topo := Topo.v7x

variable {F : FTy → Type} [FloatOps F]
-- ==== Proof.Frames.lean ====
/- The frames of the six programs: each runs to its end, leaves its arguments as they were and every semaphore
   counter at zero. -/
module

public import proofs.«01_k».proof.Defs
public import proofs.«01_k».proof.Proof.Gen.Kernel.Frame
public import proofs.«01_k».proof.Proof.Gen.KernelIdeal.Frame
public import proofs.«01_k».proof.Proof.Gen.KernelFin.Frame
public import proofs.«01_k».proof.Proof.Gen.KernelFinIdeal.Frame
public import proofs.«01_k».proof.Proof.Gen.ReferenceIdeal.Run
public import proofs.«01_k».proof.Proof.Gen.ReferenceFinIdeal.Run

@[expose] public section

namespace Umbrella.Frames

open Idealize.ShloMosaic Idealize.SL.Sem

/-- The reference's run, read at the arguments; a program of host operations declares no semaphore. -/
theorem reference : Cert.quiescent_ReferenceIdeal := fun m ρ _ =>
  (θ_run Cert.ReferenceIdeal.defs _ _).mono
    (fun r h => ⟨fun c => ⟨(h c).2.2.1, (h c).2.2.2⟩, sem_eq_zero_of_no_sems (by decide) r.2⟩)
    (Cert.ReferenceIdeal.Value.run (F := Ideal) m ρ)

/-- The run of the reference that tests for finiteness, read at the arguments. -/
theorem referenceFin : Cert.quiescent_ReferenceFinIdeal := fun m ρ _ =>
  (θ_run Cert.ReferenceFinIdeal.defs _ _).mono
    (fun r h => ⟨fun c => ⟨(h c).2.2.1, (h c).2.2.2⟩, sem_eq_zero_of_no_sems (by decide) r.2⟩)
    (Cert.ReferenceFinIdeal.Value.run (F := Ideal) m ρ)

end Umbrella.Frames
-- ==== Proof.Vec.lean ====
/- The kernel's body for one block of 256 query points, written as named vector functions: the distances to all
   padded points, one round of picking the nearest point left, the gather of the picked point, its azimuth, the
   ranks of the azimuths, and the normals. -/
module

public import proofs.«01_k».proof.Proof.Gen.KernelFinIdeal

@[expose] public section

set_option maxRecDepth 16384

noncomputable section

namespace Umbrella

open Idealize.ShloMosaic Cert.KernelFinIdeal
open Cert.KernelFinIdeal.Facts₀ Cert.KernelFinIdeal.Facts

variable {F : FTy → Type} [FloatOps F]

/-- The zero of the kernel's float type. -/
def zeroF : F .f32 := Scalar.ofBits .f32 0x00000000#32

/-- The lane numbers of a row of distances. -/
def laneNo : IVec S256x10240 32 := iota .tc S256x10240 32 [1] iota_S256x10240_d1_w32
/-- The numbers of the chunks of 128 points. -/
def chunkNo : IVec S256x80 32 := iota .tc S256x80 32 [1] iota_S256x80_d1_w32
/-- The numbers of the points within a chunk. -/
def withinNo : IVec S256x128 32 := iota .tc S256x128 32 [1] iota_S256x128_d1_w32
/-- The numbers of the nine neighbours. -/
def placeNo : IVec S256x9 32 := iota .tc S256x9 32 [1] iota_S256x9_d1_w32

/-- The distances of the block's query points to all the padded points. -/
def dist (q : FVec F S256x3 .f32) (kt : FVec F S3x10240 .f32) (qs : FVec F S256x1 .f32) (ks : FVec F S1x10240 .f32) :
    FVec F S256x10240 .f32 :=
  sqrt (maximumf
    (addf
      (subf (broadcastTo S256x10240 (shapeCast S256x1 qs shapeCasts_S256x1_S256x1) broadcasts_S256x1_S256x10240)
        (mulf (broadcast S256x10240 (Scalar.ofBits .f32 0x40000000#32))
          (matmul dot_S256x3_S3x10240_S256x10240_1_0_0_1_n_n none (shapeCast S256x3 q shapeCasts_S256x3_S256x3)
            (shapeCast S3x10240 kt shapeCasts_S3x10240_S3x10240) (constant S256x10240 .f32 0x00000000#32))))
      (broadcastTo S256x10240 (shapeCast S1x10240 ks shapeCasts_S1x10240_S1x10240) broadcasts_S1x10240_S256x10240))
    (broadcast S256x10240 zeroF))

/-- The lane number where the distance is the row's least, 10240 elsewhere. -/
def cand (d : FVec F S256x10240 .f32) : IVec S256x10240 32 :=
  select
    (cmpf .oeq d (broadcastTo S256x10240 (shapeCast S256x1
      (multiReduction .minimumf [1] S256 d 0x7F800000#32 reduces_S256x10240_S256 (.inl rfl) rfl) shapeCasts_S256_S256x1)
      broadcasts_S256x1_S256x10240))
    laneNo (broadcast S256x10240 10240#32)

/-- The first lane of the least distance in each row. -/
def pick (d : FVec F S256x10240 .f32) : IVec S256x1 32 :=
  shapeCast S256x1 (multiReductionI .minsi [1] S256 (cand d) 2147483647#32 reduces_S256x10240_S256 rfl)
    shapeCasts_S256_S256x1

/-- The distances with the picked lane of each row set to infinity. -/
def drop (d : FVec F S256x10240 .f32) : FVec F S256x10240 .f32 :=
  select (cmpi .eq (cand d) (broadcastTo S256x10240 (pick d) broadcasts_S256x1_S256x10240))
    (broadcast S256x10240 (Scalar.ofBits .f32 0x7F800000#32)) d

/-- The distances left after `k` rounds. -/
def stage (d : FVec F S256x10240 .f32) (k : ℕ) : FVec F S256x10240 .f32 := Nat.rec d (fun _ e => drop e) k

/-- The number of the chunk a picked lane lies in. -/
def chunkOf (w : IVec S256x1 32) : IVec S256x1 32 := shrui w (broadcast S256x1 7#32)

/-- The chunk of the picked lane, read by a matrix product with a one-hot row. -/
def chunkRow (kc : FVec F S80x384 .f32) (w : IVec S256x1 32) : FVec F S256x384 .f32 :=
  matmul dot_S256x80_S80x384_S256x384_1_0_0_1_n_n (some .fp32)
    (select (cmpi .eq chunkNo (broadcastTo S256x80 (chunkOf w) broadcasts_S256x1_S256x80))
      (broadcast S256x80 (Scalar.ofBits .f32 0x3F800000#32)) (broadcast S256x80 zeroF))
    kc (constant S256x384 .f32 0x00000000#32)

/-- Where in its chunk the picked lane lies. -/
def within (w : IVec S256x1 32) : IVec S256x128 1 :=
  cmpi .eq withinNo (broadcastTo S256x128 (andi w (broadcast S256x1 127#32)) broadcasts_S256x1_S256x128)

/-- The one element of a chunk's coordinate that belongs to the picked lane. -/
def fetch (v : FVec F S256x128 .f32) (w : IVec S256x1 32) : FVec F S256x1 .f32 :=
  shapeCast S256x1 (multiReduction .add [1] S256 (select (within w) v (broadcast S256x128 zeroF)) 0x00000000#32
    reduces_S256x128_S256 (.inl rfl) rfl) shapeCasts_S256_S256x1

/-- The picked point relative to the query point, first coordinate. -/
def gx (q : FVec F S256x3 .f32) (kc : FVec F S80x384 .f32) (w : IVec S256x1 32) : FVec F S256x1 .f32 :=
  subf (fetch (extractStridedSlice S256x128 ![0, 0] (chunkRow kc w) slices_S256x384_o0_0_S256x128) w)
    (extractStridedSlice S256x1 ![0, 0] q slices_S256x3_o0_0_S256x1)
/-- The picked point relative to the query point, second coordinate. -/
def gy (q : FVec F S256x3 .f32) (kc : FVec F S80x384 .f32) (w : IVec S256x1 32) : FVec F S256x1 .f32 :=
  subf (fetch (extractStridedSlice S256x128 ![0, 128] (chunkRow kc w) slices_S256x384_o0_128_S256x128) w)
    (extractStridedSlice S256x1 ![0, 1] q slices_S256x3_o0_1_S256x1)
/-- The picked point relative to the query point, third coordinate. -/
def gz (q : FVec F S256x3 .f32) (kc : FVec F S80x384 .f32) (w : IVec S256x1 32) : FVec F S256x1 .f32 :=
  subf (fetch (extractStridedSlice S256x128 ![0, 256] (chunkRow kc w) slices_S256x384_o0_256_S256x128) w)
    (extractStridedSlice S256x1 ![0, 2] q slices_S256x3_o0_2_S256x1)

/-- The relative point, rotated. -/
def turned (rot : FVec F S3x3 .f32) (x y z : FVec F S256x1 .f32) : FVec F S256x3 .f32 :=
  matmul dot_S256x3_S3x3_S256x3_1_0_0_1_n_n none
    (concatenate S256x3 1 [⟨S256x1, x⟩, ⟨S256x1, y⟩, ⟨S256x1, z⟩] concatenates_S256x1_S256x1_S256x1_S256x3_d1)
    rot (constant S256x3 .f32 0x00000000#32)

/-- The azimuth of the rotated relative point. -/
def angle (rot : FVec F S3x3 .f32) (x y z : FVec F S256x1 .f32) : FVec F S256x1 .f32 :=
  addf (divf (atan2 (extractStridedSlice S256x1 ![0, 1] (turned rot x y z) slices_S256x3_o0_1_S256x1)
      (extractStridedSlice S256x1 ![0, 0] (turned rot x y z) slices_S256x3_o0_0_S256x1))
      (broadcast S256x1 (Scalar.ofBits .f32 0x40C90FDB#32)))
    (broadcast S256x1 (Scalar.ofBits .f32 0x3F000000#32))

/-- The nine picked lanes side by side. -/
def nineI (w : ℕ → IVec S256x1 32) : IVec S256x9 32 :=
  concatenate S256x9 1 [⟨S256x1, w 0⟩, ⟨S256x1, w 1⟩, ⟨S256x1, w 2⟩, ⟨S256x1, w 3⟩, ⟨S256x1, w 4⟩, ⟨S256x1, w 5⟩,
    ⟨S256x1, w 6⟩, ⟨S256x1, w 7⟩, ⟨S256x1, w 8⟩]
    concatenates_S256x1_S256x1_S256x1_S256x1_S256x1_S256x1_S256x1_S256x1_S256x1_S256x9_d1

/-- The nine azimuths side by side. -/
def nineF (v : ℕ → FVec F S256x1 .f32) : FVec F S256x9 .f32 :=
  concatenate S256x9 1 [⟨S256x1, v 0⟩, ⟨S256x1, v 1⟩, ⟨S256x1, v 2⟩, ⟨S256x1, v 3⟩, ⟨S256x1, v 4⟩, ⟨S256x1, v 5⟩,
    ⟨S256x1, v 6⟩, ⟨S256x1, v 7⟩, ⟨S256x1, v 8⟩]
    concatenates_S256x1_S256x1_S256x1_S256x1_S256x1_S256x1_S256x1_S256x1_S256x1_S256x9_d1

/-- How many of the nine azimuths go before the azimuth `c` of neighbour `k`. -/
def rankOf (ph : FVec F S256x9 .f32) (c : FVec F S256x1 .f32) (k : BitVec 32) : IVec S256x1 32 :=
  shapeCast S256x1 (multiReductionI .add [1] S256
    (extui 32 (ori (cmpf .olt ph (broadcastTo S256x9 c broadcasts_S256x1_S256x9))
      (andi (cmpf .oeq ph (broadcastTo S256x9 c broadcasts_S256x1_S256x9))
        (cmpi .slt placeNo (broadcast S256x9 k)))) natLt_1_32) 0#32 reduces_S256x9_S256 rfl) shapeCasts_S256_S256x1

/-- The rank of each neighbour. -/
def rank (ph : FVec F S256x9 .f32) (k : ℕ) : IVec S256x1 32 :=
  match k with
  | 0 => rankOf ph (extractStridedSlice S256x1 ![0, 0] ph slices_S256x9_o0_0_S256x1) 0#32
  | 1 => rankOf ph (extractStridedSlice S256x1 ![0, 1] ph slices_S256x9_o0_1_S256x1) 1#32
  | 2 => rankOf ph (extractStridedSlice S256x1 ![0, 2] ph slices_S256x9_o0_2_S256x1) 2#32
  | 3 => rankOf ph (extractStridedSlice S256x1 ![0, 3] ph slices_S256x9_o0_3_S256x1) 3#32
  | 4 => rankOf ph (extractStridedSlice S256x1 ![0, 4] ph slices_S256x9_o0_4_S256x1) 4#32
  | 5 => rankOf ph (extractStridedSlice S256x1 ![0, 5] ph slices_S256x9_o0_5_S256x1) 5#32
  | 6 => rankOf ph (extractStridedSlice S256x1 ![0, 6] ph slices_S256x9_o0_6_S256x1) 6#32
  | 7 => rankOf ph (extractStridedSlice S256x1 ![0, 7] ph slices_S256x9_o0_7_S256x1) 7#32
  | _ => rankOf ph (extractStridedSlice S256x1 ![0, 8] ph slices_S256x9_o0_8_S256x1) 8#32

/-- The value `v` in the place `w` of each row, zero elsewhere. -/
def put (w : IVec S256x1 32) (v : FVec F S256x1 .f32) : FVec F S256x9 .f32 :=
  select (cmpi .eq placeNo (broadcastTo S256x9 w broadcasts_S256x1_S256x9))
    (broadcastTo S256x9 (shapeCast S256x1 v shapeCasts_S256x1_S256x1) broadcasts_S256x1_S256x9)
    (broadcast S256x9 zeroF)

/-- The nine values, each in its place. -/
def spread (w : ℕ → IVec S256x1 32) (v : ℕ → FVec F S256x1 .f32) : FVec F S256x9 .f32 :=
  addf (addf (addf (addf (addf (addf (addf (addf (addf (broadcast S256x9 zeroF) (put (w 0) (v 0))) (put (w 1) (v 1)))
    (put (w 2) (v 2))) (put (w 3) (v 3))) (put (w 4) (v 4))) (put (w 5) (v 5))) (put (w 6) (v 6))) (put (w 7) (v 7)))
    (put (w 8) (v 8))

/-- Each row moved one place to the left, around. -/
def turn (v : FVec F S256x9 .f32) : FVec F S256x9 .f32 :=
  concatenate S256x9 1 [⟨S256x8, extractStridedSlice S256x8 ![0, 1] v slices_S256x9_o0_1_S256x8⟩,
    ⟨S256x1, extractStridedSlice S256x1 ![0, 0] v slices_S256x9_o0_0_S256x1⟩] concatenates_S256x8_S256x1_S256x9_d1

/-- One component of the cross products of neighbouring points. -/
def crossOf (a b : FVec F S256x9 .f32) : FVec F S256x9 .f32 := subf (mulf a (turn b)) (mulf b (turn a))

/-- The lengths of the cross products. -/
def lenOf (nx ny nz : FVec F S256x9 .f32) : FVec F S256x9 .f32 :=
  sqrt (addf (addf (mulf nx nx) (mulf nz nz)) (mulf ny ny))

/-- One component of the unit normals; not a number where the length is zero. -/
def unitOf (len n : FVec F S256x9 .f32) : FVec F S256x9 .f32 :=
  select (cmpf .oeq len (broadcast S256x9 zeroF)) (broadcast S256x9 (Scalar.ofBits .f32 0x7FC00000#32))
    (divf n (select (cmpf .oeq len (broadcast S256x9 zeroF)) (broadcast S256x9 (Scalar.ofBits .f32 0x3F800000#32)) len))

/-- The sign that makes the first unit normal's first component positive. -/
def signOf (u : FVec F S256x9 .f32) : FVec F S256x1 .f32 :=
  select (cmpf .ogt (extractStridedSlice S256x1 ![0, 0] u slices_S256x9_o0_0_S256x1) (broadcast S256x1 zeroF))
    (broadcast S256x1 (Scalar.ofBits .f32 0x3F800000#32)) (broadcast S256x1 (Scalar.ofBits .f32 0xBF800000#32))

/-- One component of the oriented unit normals. -/
def orient (u v : FVec F S256x9 .f32) : FVec F S256x9 .f32 :=
  mulf v (broadcastTo S256x9 (signOf u) broadcasts_S256x1_S256x9)

/-- Where none of the three components is bad. -/
def good (bad : FVec F S256x9 .f32 → IVec S256x9 1) (a b c : FVec F S256x9 .f32) : IVec S256x9 1 :=
  xori (ori (ori (bad a) (bad b)) (bad c)) (constantI S256x9 1 1#1)

/-- The first good place of each row, the very first if there is none. -/
def chosen (ok : IVec S256x9 1) : IVec S256x9 1 :=
  cmpi .eq placeNo (broadcastTo S256x9
    (select (cmpi .eq (shapeCast S256x1 (multiReductionI .minsi [1] S256
          (select ok placeNo (broadcast S256x9 1073741824#32)) 2147483647#32 reduces_S256x9_S256 rfl)
          shapeCasts_S256_S256x1) (broadcast S256x1 1073741824#32))
      (broadcast S256x1 0#32)
      (shapeCast S256x1 (multiReductionI .minsi [1] S256
          (select ok placeNo (broadcast S256x9 1073741824#32)) 2147483647#32 reduces_S256x9_S256 rfl)
          shapeCasts_S256_S256x1)) broadcasts_S256x1_S256x9)

/-- The sum of each row. -/
def total (v : FVec F S256x9 .f32) : FVec F S256x1 .f32 :=
  shapeCast S256x1 (multiReduction .add [1] S256 v 0x00000000#32 reduces_S256x9_S256 (.inl rfl) rfl)
    shapeCasts_S256_S256x1

/-- The oriented normals with the bad ones replaced by the first good one. -/
def mend (ok : IVec S256x9 1) (v : FVec F S256x9 .f32) : FVec F S256x9 .f32 :=
  select ok v (broadcastTo S256x9 (shapeCast S256x1 (total (select (chosen ok) v (broadcast S256x9 zeroF)))
    shapeCasts_S256x1_S256x1) broadcasts_S256x1_S256x9)

/-- Half the lengths over the temperature. -/
def logits (len : FVec F S256x9 .f32) : FVec F S256x9 .f32 :=
  divf (mulf (broadcast S256x9 (Scalar.ofBits .f32 0x3F000000#32)) len)
    (broadcast S256x9 (Scalar.ofBits .f32 0x38D1B717#32))

/-- The exponentials of the logits, less the row's greatest. -/
def powers (x : FVec F S256x9 .f32) : FVec F S256x9 .f32 :=
  exp (subf x (broadcastTo S256x9 (shapeCast S256x1
    (multiReduction .maximumf [1] S256 x 0xFF800000#32 reduces_S256x9_S256 (.inl rfl) rfl) shapeCasts_S256_S256x1)
    broadcasts_S256x1_S256x9))

/-- The weights of the nine normals. -/
def weights (len : FVec F S256x9 .f32) : FVec F S256x9 .f32 :=
  divf (powers (logits len)) (broadcastTo S256x9 (total (powers (logits len))) broadcasts_S256x1_S256x9)

/-- The weighted normals of the block from the nine sorted relative points. -/
def normals (bad : FVec F S256x9 .f32 → IVec S256x9 1) (sx sy sz : FVec F S256x9 .f32) : FVec F S256x3 .f32 :=
  let nx := crossOf sy sz
  let ny := crossOf sz sx
  let nz := crossOf sx sy
  let len := lenOf nx ny nz
  let u := unitOf len nx
  let vx := orient u u
  let vy := orient u (unitOf len ny)
  let vz := orient u (unitOf len nz)
  let ok := good bad vx vy vz
  concatenate S256x3 1 [⟨S256x1, total (mulf (mend ok vx) (weights len))⟩,
    ⟨S256x1, total (mulf (mend ok vy) (weights len))⟩, ⟨S256x1, total (mulf (mend ok vz) (weights len))⟩]
    concatenates_S256x1_S256x1_S256x1_S256x3_d1

/-- The test for a component that is not finite. -/
def notFinite (v : FVec F S256x9 .f32) : IVec S256x9 1 :=
  xori (cmpf .olt (absf v) (broadcast S256x9 (Scalar.ofBits .f32 0x7F800000#32))) (constantI S256x9 1 1#1)

/-- The test for a component that is not a number. -/
def notNumber (v : FVec F S256x9 .f32) : IVec S256x9 1 := cmpf .one v v

section Block

variable (x0 : FVec F S256x3 .f32) (x1 : FVec F S3x10240 .f32) (x2 : FVec F S256x1 .f32) (x3 : FVec F S1x10240 .f32)
  (x4 : FVec F S80x384 .f32) (x5 : FVec F S3x3 .f32)

/-- The lanes picked in round `k`. -/
def lanes (k : ℕ) : IVec S256x1 32 := pick (stage (dist x0 x1 x2 x3) k)
/-- The relative points of round `k`, first coordinate. -/
def relX (k : ℕ) : FVec F S256x1 .f32 :=
  gx (shapeCast S256x3 x0 shapeCasts_S256x3_S256x3) (shapeCast S80x384 x4 shapeCasts_S80x384_S80x384) (lanes x0 x1 x2 x3 k)
/-- The relative points of round `k`, second coordinate. -/
def relY (k : ℕ) : FVec F S256x1 .f32 :=
  gy (shapeCast S256x3 x0 shapeCasts_S256x3_S256x3) (shapeCast S80x384 x4 shapeCasts_S80x384_S80x384) (lanes x0 x1 x2 x3 k)
/-- The relative points of round `k`, third coordinate. -/
def relZ (k : ℕ) : FVec F S256x1 .f32 :=
  gz (shapeCast S256x3 x0 shapeCasts_S256x3_S256x3) (shapeCast S80x384 x4 shapeCasts_S80x384_S80x384) (lanes x0 x1 x2 x3 k)
/-- The azimuths of the nine picked points. -/
def angles : FVec F S256x9 .f32 :=
  nineF fun k => angle x5 (relX x0 x1 x2 x3 x4 k) (relY x0 x1 x2 x3 x4 k) (relZ x0 x1 x2 x3 x4 k)
/-- The block's weighted normals. -/
def blockNormals (bad : FVec F S256x9 .f32 → IVec S256x9 1) : FVec F S256x3 .f32 :=
  normals bad (spread (rank (angles x0 x1 x2 x3 x4 x5)) (relX x0 x1 x2 x3 x4))
    (spread (rank (angles x0 x1 x2 x3 x4 x5)) (relY x0 x1 x2 x3 x4))
    (spread (rank (angles x0 x1 x2 x3 x4 x5)) (relZ x0 x1 x2 x3 x4))

end Block

end Umbrella
-- ==== Proof.Order.lean ====
/- The order a stable sort leaves, stated on keys: `nth x p` is the position that a stable sort by the key `x` puts in
   place `p`. -/
module

public import Idealize.ShloMosaic.Lib.SortPrefix
public import Mathlib.Data.Fintype.Card
public import Mathlib.Order.Interval.Finset.Fin
public import Mathlib.Data.Fintype.Fin

@[expose] public section

namespace Umbrella

open Idealize.ShloMosaic

variable {n : ℕ} {κ : Type} [LinearOrder κ] (x : Fin n → κ)

/-- `k` goes before `k'`: its key is smaller, or the keys are equal and its position is. -/
def earlier (k k' : Fin n) : Bool := decide (x k < x k') || (decide (x k = x k') && decide (k < k'))

/-- The position whose element the stable sort by the key `x` puts in place `p`. -/
def nth (p : Fin n) : Fin n := sortedFrom (fun k k' => decide (x k < x k')) p

theorem earlier_iff (k k' : Fin n) : earlier x k k' = true ↔ x k < x k' ∨ (x k = x k' ∧ k < k') := by
  simp [earlier]

/-- Key, then position, orders any two positions one way. -/
theorem earlier_total : StrictTotalBefore (earlier x) :=
  StrictTotalBefore.of_key_then_position (fun a b => decide (a < b)) x (fun a => by simp)
    (fun a b c h h' => by simp only [decide_eq_true_eq] at *; exact h.trans h')
    (fun a b => by simpa using lt_trichotomy a b)

/-- On a list of rising positions the stable sort by the key alone is the sort by key, then position. -/
theorem stableSort_key (l : List (Fin n)) (hl : l.Pairwise (· < ·)) :
    stableSort (fun k k' => decide (x k < x k')) l = stableSort (earlier x) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [earlier, not_lt.mpr hab.le]

/-- `nth` is the sort by key, then position. -/
theorem nth_eq (p : Fin n) : nth x p = sortedFrom (earlier x) p := by
  unfold nth sortedFrom
  rw [List.get_of_eq (show sortPositions n _ = sortPositions n (earlier x) from
    stableSort_key x _ (List.pairwise_lt_finRange n))]
  rfl

theorem nth_injective : Function.Injective (nth x) := sortedFrom_injective _

theorem nth_surjective : Function.Surjective (nth x) := sortedFrom_surjective _

/-- The places rise in key, then position. -/
theorem nth_lt {p q : Fin n} (h : p < q) : earlier x (nth x p) (nth x q) = true := by
  have hB := earlier_total x
  have h1 := sortedFrom_noInversion (earlier x) (earlier x) (hB.asymm) (fun _ _ h => h) (hB.negTrans) p q h
  rw [nth_eq, nth_eq]
  rcases hB.total (sortedFrom (earlier x) p) (sortedFrom (earlier x) q)
    (fun e => h.ne (sortedFrom_injective _ e)) with h2 | h2
  · exact h2
  · rw [h1] at h2; exact absurd h2 (by simp)

/-- What comes earlier in key, then position, stands in an earlier place. -/
theorem earlier_nth (p q : Fin n) : earlier x (nth x p) (nth x q) = true ↔ p < q := by
  refine ⟨fun h => ?_, nth_lt x⟩
  rcases lt_trichotomy p q with h' | h' | h'
  · exact h'
  · subst h'; rw [(earlier_total x).irrefl] at h; exact absurd h (by simp)
  · rw [(earlier_total x).asymm _ _ (nth_lt x h')] at h; exact absurd h (by simp)

/-- As many positions come before the one in place `p` as there are places before `p`. -/
theorem card_earlier_nth (p : Fin n) :
    (Finset.univ.filter fun j => earlier x j (nth x p) = true).card = p.val := by
  have : (Finset.univ.filter fun j => earlier x j (nth x p) = true) = (Finset.univ.filter fun q => q < p).image (nth x) := by
    ext j
    obtain ⟨q, rfl⟩ := nth_surjective x j
    simp only [Finset.mem_filter, Finset.mem_univ, true_and, Finset.mem_image, earlier_nth]
    constructor
    · intro h; exact ⟨q, h, rfl⟩
    · rintro ⟨q', h, e⟩; exact nth_injective x e ▸ h
  rw [this, Finset.card_image_of_injective _ (nth_injective x),
    show (Finset.univ.filter fun q => q < p) = Finset.Iio p from by ext; simp]
  exact Fin.card_Iio p

/-- A position with exactly `p` positions before it is the one in place `p`. -/
theorem nth_of_card (p i : Fin n) :
    (Finset.univ.filter fun j => earlier x j i = true).card = p.val ↔ nth x p = i := by
  obtain ⟨q, rfl⟩ := nth_surjective x i
  rw [card_earlier_nth]
  exact ⟨fun h => congrArg _ (Fin.ext h.symm), fun h => congrArg Fin.val (nth_injective x h).symm⟩

/-- The position in place `p` is before every other position but those in the places before `p`. -/
theorem nth_before (p i : Fin n) (hi : nth x p ≠ i) (h : ∀ q < p, nth x q ≠ i) : earlier x (nth x p) i = true := by
  obtain ⟨q, rfl⟩ := nth_surjective x i
  rw [earlier_nth]
  rcases lt_trichotomy q p with h' | h' | h'
  · exact absurd rfl (h q h')
  · exact absurd (congrArg _ h'.symm) hi
  · exact h'

/-- A position before all others is in place zero. -/
theorem nth_zero [NeZero n] (i : Fin n) (h : ∀ j, j ≠ i → earlier x i j = true) : nth x 0 = i := by
  by_contra hne
  have h1 := h _ hne
  have h2 := nth_before x 0 i hne fun q hq => absurd hq (by simp)
  rw [(earlier_total x).asymm _ _ h1] at h2
  exact absurd h2 (by simp)

/-! ## Picking the least again and again -/

/-- The keys after `k` picks: what is picked, and every lane past the keys, is `⊤`. -/
def left {N : ℕ} {κ : Type} [LinearOrder κ] [OrderTop κ] (x : Fin n → κ) (k : ℕ) (i : Fin N) : κ :=
  if h : i.val < n then (if ∃ q : Fin n, q.val < k ∧ nth x q = ⟨i.val, h⟩ then ⊤ else x ⟨i.val, h⟩) else ⊤

/-- Before the first pick the keys are themselves. -/
theorem left_zero {N : ℕ} {κ : Type} [LinearOrder κ] [OrderTop κ] (x : Fin n → κ) (i : Fin N) :
    left x 0 i = if h : i.val < n then x ⟨i.val, h⟩ else ⊤ := by
  simp [left]

/-- A pick sets the lane it takes to `⊤` and keeps the others. -/
theorem left_succ {N : ℕ} {κ : Type} [LinearOrder κ] [OrderTop κ] (x : Fin n → κ) (k : Fin n) (i : Fin N) :
    left x (k.val + 1) i = if i.val = (nth x k).val then ⊤ else left x k.val i := by
  unfold left
  by_cases h : i.val < n
  · simp only [dif_pos h]
    by_cases hi : i.val = (nth x k).val
    · rw [if_pos hi, if_pos ⟨k, Nat.lt_succ_self _, Fin.ext hi.symm⟩]
    · rw [if_neg hi]
      congr 1
      refine propext ⟨?_, ?_⟩
      · rintro ⟨q, hq, e⟩
        refine ⟨q, lt_of_le_of_ne (Nat.le_of_lt_succ hq) fun hk => hi ?_, e⟩
        rw [Fin.ext hk] at e
        exact (congrArg Fin.val e).symm
      · rintro ⟨q, hq, e⟩
        exact ⟨q, hq.trans (Nat.lt_succ_self _), e⟩
  · simp only [dif_neg h]
    split <;> rfl

/-- The pick's lane holds a key below `⊤`. -/
theorem left_nth {N : ℕ} (hN : n ≤ N) {κ : Type} [LinearOrder κ] [OrderTop κ] (x : Fin n → κ) (k : Fin n) :
    left x k.val ((nth x k).castLE hN) = x (nth x k) := by
  unfold left
  rw [dif_pos (by simp), if_neg]
  · rfl
  · rintro ⟨q, hq, e⟩
    have := nth_injective x (e.trans (Fin.ext rfl : _ = nth x k))
    omega

/-- The `k`-th place is the first lane of the least key left. -/
theorem left_least {N : ℕ} (hN : n ≤ N) {κ : Type} [LinearOrder κ] [OrderTop κ] (x : Fin n → κ) (hx : ∀ i, x i < ⊤)
    (k : Fin n) (i : Fin N) (hi : i ≠ (nth x k).castLE hN) :
    left x k.val ((nth x k).castLE hN) < left x k.val i
      ∨ (left x k.val ((nth x k).castLE hN) = left x k.val i ∧ (nth x k).val < i.val) := by
  rw [left_nth hN]
  unfold left
  by_cases h : i.val < n
  · rw [dif_pos h]
    split
    · exact Or.inl (hx _)
    · rename_i hq
      have hb := nth_before x k ⟨i.val, h⟩ (fun e => hi (Fin.ext (congrArg Fin.val e).symm))
        fun q hqk e => hq ⟨q, hqk, e⟩
      rw [earlier_iff] at hb
      rcases hb with hb | ⟨hb, hb'⟩
      · exact Or.inl hb
      · exact Or.inr ⟨hb, hb'⟩
  · rw [dif_neg h]
    exact Or.inl (hx _)

/-- The same, of a lane given by its number. -/
theorem exists_least {N : ℕ} (hN : n ≤ N) {κ : Type} [LinearOrder κ] [OrderTop κ] (x : Fin n → κ) (hx : ∀ i, x i < ⊤)
    (k : Fin n) : ∃ p : Fin N, p.val = (nth x k).val ∧ ∀ i, i ≠ p →
      left x k.val p < left x k.val i ∨ (left x k.val p = left x k.val i ∧ p.val < i.val) :=
  ⟨(nth x k).castLE hN, rfl, fun i hi => left_least hN x hx k i hi⟩

end Umbrella

end
-- ==== Proof.Words.lean ====
/- Folds over 32-bit words and bits, read as facts about natural numbers. -/
module

public import Idealize.ShloMosaic.Lib.Pointwise

@[expose] public section

namespace Umbrella

open Idealize.ShloMosaic

/-- The word of a number below `2^31`, read signed, is the number. -/
theorem toInt_ofNat {n : ℕ} (h : n < 2 ^ 31) : (BitVec.ofNat 32 n).toInt = n := by
  rw [BitVec.toInt_eq_toNat_of_lt] <;> rw [BitVec.toNat_ofNat, Nat.mod_eq_of_lt (by omega)]
  omega

/-- Words of numbers below `2^32` are equal only when the numbers are. -/
theorem ofNat_inj {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

/-- Equality of two such words as a bit. -/
theorem cmpi_eq_ofNat {a b : ℕ} (ha : a < 2 ^ 32) (hb : b < 2 ^ 32) :
    IntOp.cmpi .eq (BitVec.ofNat 32 a) (BitVec.ofNat 32 b) = BitVec.ofBool (decide (a = b)) := by
  by_cases h : a = b
  · subst h; simp [IntOp.cmpi]
  · have : BitVec.ofNat 32 a ≠ BitVec.ofNat 32 b := fun e => h (ofNat_inj ha hb e)
    rw [decide_eq_false h]; simp only [IntOp.cmpi, beq_eq_false_iff_ne.2 this]

/-- The signed order of two such words as a bit. -/
theorem cmpi_slt_ofNat {a b : ℕ} (ha : a < 2 ^ 31) (hb : b < 2 ^ 31) :
    IntOp.cmpi .slt (BitVec.ofNat 32 a) (BitVec.ofNat 32 b) = BitVec.ofBool (decide (a < b)) := by
  simp only [IntOp.cmpi, BitVec.slt, toInt_ofNat ha, toInt_ofNat hb, Nat.cast_lt]

/-- A choice by a decided bit is a choice by the proposition. -/
theorem select_ofBool {α : Type} (p : Prop) [Decidable p] (a b : α) :
    Scalar.select (BitVec.ofBool (decide p)) a b = if p then a else b := by
  by_cases h : p <;> simp [Scalar.select, h]

/-- The signed minimum of two words, read signed. -/
theorem minsi_toInt (a b : BitVec 32) : (IntOp.minsi a b).toInt = min a.toInt b.toInt := by
  simp only [IntOp.minsi, BitVec.slt]
  split <;> rename_i h <;> simp at h <;> omega

/-- The signed minimum over a family is the member that no other is below. -/
theorem fold_minsi {ι : Type} [Fintype ι] (init : BitVec 32) (f : ι → BitVec 32) (i : ι)
    (h : ∀ j, (f i).toInt ≤ (f j).toInt) (h0 : (f i).toInt ≤ init.toInt) :
    Finset.fold IntOp.minsi init f Finset.univ = f i := by
  have key : (Finset.fold IntOp.minsi init f Finset.univ).toInt
      = Finset.fold min init.toInt (fun j => (f j).toInt) Finset.univ :=
    (Finset.fold_hom (op := IntOp.minsi) (op' := min) (m := BitVec.toInt) minsi_toInt).symm
  apply BitVec.eq_of_toInt_eq
  rw [key]
  apply le_antisymm
  · exact (Finset.fold_min_le _).2 (Or.inr ⟨i, Finset.mem_univ _, le_rfl⟩)
  · exact (Finset.le_fold_min _).2 ⟨h0, fun j _ => h j⟩

/-- The minimum over a family is the member that no other is below. -/
theorem fold_min_eq {ι κ : Type} [Fintype ι] [LinearOrder κ] (init : κ) (f : ι → κ) (i : ι)
    (h : ∀ j, f i ≤ f j) (h0 : f i ≤ init) : Finset.fold min init f Finset.univ = f i := by
  apply le_antisymm
  · exact (Finset.fold_min_le _).2 (Or.inr ⟨i, Finset.mem_univ _, le_rfl⟩)
  · exact (Finset.le_fold_min _).2 ⟨h0, fun j _ => h j⟩

/-- The word of a sum of decided bits is the word of how many of them hold. -/
theorem fold_count {ι : Type} [Fintype ι] [DecidableEq ι] (p : ι → Prop) [DecidablePred p] :
    Finset.fold IntOp.addi 0#32 (fun i => BitVec.setWidth 32 (BitVec.ofBool (decide (p i)))) Finset.univ
      = BitVec.ofNat 32 (Finset.univ.filter p).card := by
  have : ∀ s : Finset ι, Finset.fold IntOp.addi 0#32 (fun i => BitVec.setWidth 32 (BitVec.ofBool (decide (p i)))) s
      = BitVec.ofNat 32 (s.filter p).card := by
    intro s
    induction s using Finset.induction_on with
    | empty => simp
    | insert a s ha ih =>
      rw [Finset.fold_insert ha, ih, Finset.filter_insert]
      by_cases h : p a
      · rw [if_pos h, Finset.card_insert_of_notMem (by simp [ha])]
        simp only [h, IntOp.addi, decide_true, BitVec.ofBool_true]
        rw [BitVec.ofNat_add, BitVec.add_comm]; rfl
      · rw [if_neg h]
        simp [h, IntOp.addi]
  exact this _

/-- A sum with one term only. -/
theorem sum_pick {ι M : Type} [Fintype ι] [DecidableEq ι] [AddCommMonoid M] (i : ι) (f : ι → M) :
    (∑ j, if j = i then f j else 0) = f i := by simp

end Umbrella
-- ==== Proof.Rounds.lean ====
/- The rounds of the kernel at one row: each round picks the first lane of the least distance left, so round `k` picks
   the lane that a stable sort of the row puts in place `k`; and the gather reads that lane's point. -/
module

public import proofs.«01_k».proof.Proof.Vec
public import proofs.«01_k».proof.Proof.Order
public import proofs.«01_k».proof.Proof.Words

@[expose] public section

set_option maxRecDepth 16384

noncomputable section

namespace Umbrella

open Idealize.ShloMosaic Cert.KernelFinIdeal

/-- The literal of infinity. -/
theorem inf_f32 : Ideal.ofBits .f32 0x7F800000#32 = (⊤ : EReal) := by simp [Ideal.ofBits, Ideal.ieee]

section Pick

variable (d : FVec Ideal S256x10240 .f32) (r : Fin 256) (p : Fin 10240)
  (h : ∀ i, i ≠ p → d (ix2 r p) < d (ix2 r i) ∨ (d (ix2 r p) = d (ix2 r i) ∧ p.val < i.val))

include h

/-- The candidates of a row whose first least lane is `p`. -/
theorem cand_row (j : Fin 10240) :
    cand d (ix2 r j) = BitVec.ofNat 32 (if d (ix2 r j) = d (ix2 r p) then j.val else 10240) := by
  have hm : Finset.fold min (Ideal.ofBits .f32 2139095040#32) (fun x => d (ix2 r x)) Finset.univ = d (ix2 r p) := by
    refine fold_min_eq (κ := EReal) _ (fun x => d (ix2 r x)) p (fun j => ?_) ?_
    · rcases eq_or_ne j p with rfl | hj
      · exact le_rfl
      · rcases h j hj with h' | h'
        · exact h'.le
        · exact h'.1.le
    · rw [inf_f32]; exact le_top
  pointwise [cand, laneNo]
  rw [hm]
  split <;> rfl

/-- The pick of a row whose first least lane is `p`. -/
theorem pick_row : pick d (ix2 r 0) = BitVec.ofNat 32 p.val := by
  have hp : cand d (ix2 r p) = BitVec.ofNat 32 p.val := by rw [cand_row d r p h]; simp
  pointwise [pick]
  rw [fold_minsi _ (fun x => cand d (ix2 r x)) p, hp]
  · intro j
    rw [hp, cand_row d r p h j, toInt_ofNat (by omega)]
    split
    · rename_i e
      rw [toInt_ofNat (by omega)]
      rcases eq_or_ne j p with rfl | hj
      · exact le_rfl
      · rcases h j hj with h' | h'
        · exact absurd e.symm (ne_of_lt h')
        · omega
    · rw [toInt_ofNat (by omega)]; omega
  · rw [hp, toInt_ofNat (by omega)]
    have : (2147483647#32).toInt = 2147483647 := by decide
    omega

/-- What a round leaves of a row whose first least lane is `p`. -/
theorem drop_row (j : Fin 10240) : drop d (ix2 r j) = if j.val = p.val then (⊤ : EReal) else d (ix2 r j) := by
  pointwise [drop]
  rw [pick_row d r p h, cand_row d r p h j, cmpi_eq_ofNat (by split <;> omega) (by omega), select_ofBool, inf_f32]
  by_cases hj : j = p
  · subst hj; simp
  · have hv : j.val ≠ p.val := fun e => hj (Fin.ext e)
    rw [if_neg hv, if_neg]
    split <;> omega

end Pick

/-- The padded points are at least the points. -/
theorem lanes_le : 10000 ≤ 10240 := by norm_num

section Stage

variable (d : FVec Ideal S256x10240 .f32) (r : Fin 256) (x : Fin 10000 → EReal) (hx : ∀ i, x i < ⊤)
  (hd : ∀ j, d (ix2 r j) = left x 0 j)

include hx hd

/-- After `k` rounds a row holds the keys less the `k` first in order. -/
theorem stage_row (k : ℕ) (hk : k ≤ 10000) : ∀ j, stage d k (ix2 r j) = left x k j := by
  induction k with
  | zero => exact hd
  | succ k ih =>
    intro j
    have ih' := ih (Nat.le_of_succ_le hk)
    obtain ⟨p, hp, hl⟩ := exists_least lanes_le x hx ⟨k, hk⟩
    have h1 := drop_row (stage d k) r p (fun i hi => by rw [ih' i, ih' p]; exact hl i hi) j
    rw [ih' j, hp] at h1
    exact h1.trans (left_succ x ⟨k, hk⟩ j).symm

/-- Round `k` picks the lane in place `k`. -/
theorem pick_stage (k : Fin 10000) : pick (stage d k.val) (ix2 r 0) = BitVec.ofNat 32 (nth x k).val := by
  have ih' := stage_row d r x hx hd k.val k.isLt.le
  obtain ⟨p, hp, hl⟩ := exists_least lanes_le x hx k
  rw [← hp]
  exact pick_row (stage d k.val) r p fun i hi => by rw [ih' i, ih' p]; exact hl i hi

end Stage

section Gather

variable (w : IVec S256x1 32) (r : Fin 256) (p : Fin 10000) (hw : w (ix2 r 0) = BitVec.ofNat 32 p.val)

/-- A lane number shifted right by seven is its chunk's number. -/
theorem shrui_seven (p : Fin 10000) :
    IntOp.shrui ArithUnit.vector (BitVec.ofNat 32 p.val) 7#32 = BitVec.ofNat 32 (p.val / 128) := by
  have hp := p.isLt
  apply BitVec.eq_of_toNat_eq
  simp [IntOp.shrui, BitVec.toNat_ushiftRight, Nat.shiftRight_eq_div_pow]
  omega

/-- A lane number masked by 127 is its place in the chunk. -/
theorem andi_low (p : Fin 10000) : IntOp.andi (BitVec.ofNat 32 p.val) 127#32 = BitVec.ofNat 32 (p.val % 128) := by
  have hp := p.isLt
  apply BitVec.eq_of_toNat_eq
  have h2 : ∀ n : ℕ, n &&& 127 = n % 128 := fun n => Nat.and_two_pow_sub_one_eq_mod n 7
  simp [IntOp.andi, BitVec.toNat_and, h2]
  omega

include hw

/-- The one-hot product reads the picked lane's chunk. -/
theorem chunkRow_row (kc : FVec Ideal S80x384 .f32) (j : Fin 384) :
    chunkRow kc w (ix2 r j) = kc (ix2 ⟨p.val / 128, by omega⟩ j) := by
  pointwise [chunkRow, chunkOf, chunkNo, zeroF]
  rw [hw, shrui_seven]
  rw [← sum_pick (⟨p.val / 128, by omega⟩ : Fin 80) (fun x => kc (ix2 x j))]
  refine Finset.sum_congr rfl fun x _ => ?_
  rw [cmpi_eq_ofNat (by omega) (by omega), select_ofBool]
  simp only [Fin.ext_iff]

/-- The masked sum reads the picked lane's element. -/
theorem fetch_row (v : FVec Ideal S256x128 .f32) :
    fetch v w (ix2 r 0) = v (ix2 r ⟨p.val % 128, by omega⟩) := by
  pointwise [fetch, within, withinNo, zeroF]
  rw [hw, andi_low]
  rw [← sum_pick (⟨p.val % 128, by omega⟩ : Fin 128) (fun x => v (ix2 r x))]
  refine Finset.sum_congr rfl fun x _ => ?_
  rw [cmpi_eq_ofNat (by omega) (by omega), select_ofBool]
  simp only [Fin.ext_iff]

/-- The first relative coordinate of the picked lane. -/
theorem gx_row (q : FVec Ideal S256x3 .f32) (kc : FVec Ideal S80x384 .f32) :
    gx q kc w (ix2 r 0) = kc (ix2 ⟨p.val / 128, by omega⟩ ⟨p.val % 128, by omega⟩) - q (ix2 r 0) := by
  pointwise [gx]
  rw [fetch_row w r p hw]
  pointwise
  rw [chunkRow_row w r p hw]

/-- The second relative coordinate of the picked lane. -/
theorem gy_row (q : FVec Ideal S256x3 .f32) (kc : FVec Ideal S80x384 .f32) :
    gy q kc w (ix2 r 0) = kc (ix2 ⟨p.val / 128, by omega⟩ ⟨128 + p.val % 128, by omega⟩) - q (ix2 r 1) := by
  pointwise [gy]
  rw [fetch_row w r p hw]
  pointwise
  rw [chunkRow_row w r p hw]

/-- The third relative coordinate of the picked lane. -/
theorem gz_row (q : FVec Ideal S256x3 .f32) (kc : FVec Ideal S80x384 .f32) :
    gz q kc w (ix2 r 0) = kc (ix2 ⟨p.val / 128, by omega⟩ ⟨256 + p.val % 128, by omega⟩) - q (ix2 r 2) := by
  pointwise [gz]
  rw [fetch_row w r p hw]
  pointwise
  rw [chunkRow_row w r p hw]

end Gather

end Umbrella
-- ==== Proof.Finite.lean ====
/- What the precondition says: every coordinate of every point is a real number. -/
module

public import proofs.«01_k».proof.Pre_finite
public import proofs.«01_k».proof.Proof.Rounds
public import Idealize.ShloMosaic.Lib.Pointwise

@[expose] public section

noncomputable section

namespace Umbrella

open Idealize.ShloMosaic

/-- The predicate's side condition. -/
theorem finite_facts : Cert.Pre_finite.Facts := ⟨by decide⟩

/-- Where the predicate holds everywhere, no coordinate is infinite. -/
theorem finite_points (X : FVec Ideal Cert.Pre_finite.S10000x3 .f32) (o : IVec Cert.Pre_finite.S1 32)
    (h : @Cert.Pre_finite.fn finite_facts Ideal _ X o = fun _ => 1#1) (i : Fin 10000) (a : Fin 3) :
    X (ix2 i a) ≠ ⊥ ∧ X (ix2 i a) ≠ ⊤ := by
  have e : BitVec.ofBool (decide (max (X (ix2 i a)) (-(X (ix2 i a))) < (⊤ : EReal))) = 1#1 := by
    refine Eq.trans ?_ (congrFun h (ix2 i a))
    rw [← inf_f32]
    rfl
  have l : max (X (ix2 i a)) (-(X (ix2 i a))) < (⊤ : EReal) := by
    by_contra n
    rw [decide_eq_false n] at e
    exact absurd e (by decide)
  refine ⟨fun b => ?_, fun t => ?_⟩
  · rw [b] at l; simp at l
  · rw [t] at l; simp at l

end Umbrella

end
-- ==== Proof.Row.lean ====
/- One point's mean normal, as a function of its nine neighbours' relative positions and azimuths. -/
module

public import proofs.«01_k».proof.Proof.Order
public import proofs.«01_k».proof.Proof.Words

@[expose] public section

noncomputable section

namespace Umbrella

open Idealize.ShloMosaic

/-- The neighbour sorted into place `p` by azimuth. -/
def sorted (ph : Fin 9 → EReal) (g : Fin 9 → Fin 3 → EReal) (p : Fin 9) (a : Fin 3) : EReal := g (nth ph p) a

section Normal

variable (s : Fin 9 → Fin 3 → EReal)

/-- The cross product of the neighbour in place `p` with the next one around. -/
def crossAt (p : Fin 9) (a : Fin 3) : EReal :=
  match a with
  | 0 => s p 1 * s (p + 1) 2 - s p 2 * s (p + 1) 1
  | 1 => s p 2 * s (p + 1) 0 - s p 0 * s (p + 1) 2
  | 2 => s p 0 * s (p + 1) 1 - s p 1 * s (p + 1) 0

/-- Its length. -/
def lenAt (p : Fin 9) : EReal := Ideal.sqrt (∑ a, crossAt s p a * crossAt s p a)

/-- The unit normal; not a number where the triangle has no area. -/
def unitAt (p : Fin 9) (a : Fin 3) : EReal :=
  if lenAt s p = 0 then Ideal.ofBits .f32 0x7FC00000#32 else Ideal.div (crossAt s p a) (lenAt s p)

/-- The sign that turns the first normal's first component positive. -/
def signAt : EReal := if 0 < unitAt s 0 0 then 1 else Ideal.ofBits .f32 0xBF800000#32

/-- The unit normal, oriented. -/
def normalAt (p : Fin 9) (a : Fin 3) : EReal := unitAt s p a * signAt s

/-- A triangle with a bad component has no normal. -/
def missing (bad : EReal → Bool) (p : Fin 9) : Bool :=
  bad (normalAt s p 0) || bad (normalAt s p 1) || bad (normalAt s p 2)

/-- The first place that is not missing, place zero if all are. -/
def firstOf (miss : Fin 9 → Bool) : Fin 9 := nth (fun p => if miss p then (1 : ℕ) else 0) 0

/-- The normals with the missing ones replaced by the first that is there. -/
def mended (bad : EReal → Bool) (p : Fin 9) (a : Fin 3) : EReal :=
  if missing s bad p then normalAt s (firstOf (missing s bad)) a else normalAt s p a

/-- Half the length over the temperature. -/
def logitAt (p : Fin 9) : EReal :=
  Ideal.div (Ideal.ofBits .f32 0x3F000000#32 * lenAt s p) (Ideal.ofBits .f32 0x38D1B717#32)

/-- The exponential of the logit less the greatest logit. -/
def powerAt (p : Fin 9) : EReal :=
  Ideal.exp (logitAt s p - Finset.univ.fold max (Ideal.ofBits .f32 0xFF800000#32) (logitAt s))

/-- The softmax weight of a triangle. -/
def weightAt (p : Fin 9) : EReal := Ideal.div (powerAt s p) (∑ q, powerAt s q)

/-- The mean normal. -/
def meanNormal (bad : EReal → Bool) (a : Fin 3) : EReal := ∑ p, mended s bad p a * weightAt s p

end Normal

/-- The first place comes before all others: it is not missing, or nothing is and it is place zero. -/
theorem firstOf_spec (miss : Fin 9 → Bool) :
    (miss (firstOf miss) = false ∧ ∀ j, miss j = false → firstOf miss ≤ j)
      ∨ ((∀ j, miss j = true) ∧ firstOf miss = 0) := by
  have h : ∀ i, firstOf miss ≠ i → earlier (fun p => if miss p then (1 : ℕ) else 0) (firstOf miss) i = true :=
    fun i hi => nth_before _ 0 i hi fun q hq => absurd hq (Fin.not_lt_zero q)
  simp only [earlier_iff] at h
  generalize firstOf miss = f at h ⊢
  cases hf : miss f
  · refine .inl ⟨rfl, fun j hj => ?_⟩
    rcases eq_or_ne f j with rfl | hne
    · exact le_rfl
    · have := h j hne
      simp only [hf, hj] at this
      rcases this with h' | h'
      · exact absurd h' (by simp)
      · exact h'.2.le
  · have hall : ∀ j, miss j = true ∧ f ≤ j := by
      intro j
      rcases eq_or_ne f j with rfl | hne
      · exact ⟨hf, le_rfl⟩
      · have := h j hne
        cases hj : miss j
        · simp [hf, hj] at this
        · simp only [hf, hj] at this
          rcases this with h' | h'
          · exact absurd h' (by simp)
          · exact ⟨rfl, h'.2.le⟩
    exact .inr ⟨fun j => (hall j).1, le_antisymm (hall 0).2 (Fin.zero_le f)⟩

end Umbrella

end
-- ==== Proof.Normals.lean ====
/- The kernel's ranks, sorted coordinates and mean normals at one row. -/
module

public import proofs.«01_k».proof.Proof.Vec
public import proofs.«01_k».proof.Proof.Row
public import proofs.«01_k».proof.Proof.Rounds

@[expose] public section

set_option maxRecDepth 16384

noncomputable section

namespace Umbrella

open Idealize.ShloMosaic Cert.KernelFinIdeal

/-- How many azimuths go before that of neighbour `k`. -/
theorem rankOf_row (ph : FVec Ideal S256x9 .f32) (c : FVec Ideal S256x1 .f32) (r : Fin 256) (k : Fin 9)
    (hc : c (ix2 r 0) = ph (ix2 r k)) : rankOf ph c (BitVec.ofNat 32 k.val) (ix2 r 0)
      = BitVec.ofNat 32 (Finset.univ.filter fun j => earlier (fun j => ph (ix2 r j)) j k = true).card := by
  rw [← fold_count]
  pointwise [rankOf, placeNo]
  refine congrArg (fun f => Finset.fold IntOp.addi 0#32 f Finset.univ) (funext fun x => ?_)
  refine congrArg (BitVec.setWidth 32) ?_
  rw [cmpi_slt_ofNat (by omega) (by omega)]
  simp only [hc]
  simp only [earlier, Bool.decide_eq_true, Fin.lt_def]
  generalize decide (ph (ix2 r x) < ph (ix2 r k)) = u
  generalize decide (ph (ix2 r x) = ph (ix2 r k)) = v
  generalize decide (x.val < k.val) = w
  revert u v w
  decide

/-- A neighbour's rank is the number of neighbours before it in azimuth, then number. -/
theorem rank_row (ph : FVec Ideal S256x9 .f32) (r : Fin 256) (k : Fin 9) :
    rank ph k.val (ix2 r 0)
      = BitVec.ofNat 32 (Finset.univ.filter fun j => earlier (fun j => ph (ix2 r j)) j k = true).card := by
  fin_cases k
  · exact rankOf_row ph _ r 0 (by pointwise)
  · exact rankOf_row ph _ r 1 (by pointwise)
  · exact rankOf_row ph _ r 2 (by pointwise)
  · exact rankOf_row ph _ r 3 (by pointwise)
  · exact rankOf_row ph _ r 4 (by pointwise)
  · exact rankOf_row ph _ r 5 (by pointwise)
  · exact rankOf_row ph _ r 6 (by pointwise)
  · exact rankOf_row ph _ r 7 (by pointwise)
  · exact rankOf_row ph _ r 8 (by pointwise)

/-- The spread values stand in the order of the azimuths. -/
theorem spread_row (ph : FVec Ideal S256x9 .f32) (v : ℕ → FVec Ideal S256x1 .f32) (r : Fin 256) (i : Fin 9) :
    spread (rank ph) v (ix2 r i) = v (nth (fun j => ph (ix2 r j)) i).val (ix2 r 0) := by
  have h : ∀ k : Fin 9, Scalar.select (IntOp.cmpi .eq (BitVec.ofNat 32 i.val) (rank ph k.val (ix2 r 0)))
      (v k.val (ix2 r 0)) (0 : EReal) = if k = nth (fun j => ph (ix2 r j)) i then v k.val (ix2 r 0) else 0 := by
    intro k
    have hc : (Finset.univ.filter fun j => earlier (fun j => ph (ix2 r j)) j k = true).card ≤ 9 :=
      (Finset.card_le_univ _).trans (by simp)
    rw [rank_row, cmpi_eq_ofNat (by omega) (by omega), select_ofBool]
    refine if_congr ?_ rfl rfl
    exact (eq_comm.trans (nth_of_card _ i k)).trans eq_comm
  have hs := sum_pick (nth (fun j => ph (ix2 r j)) i) (fun k : Fin 9 => (v k.val (ix2 r 0) : EReal))
  rw [← Finset.sum_congr rfl fun k _ => h k] at hs
  rw [← hs, Fin.sum_univ_castSucc]
  simp only [Fin.sum_univ_castSucc]
  pointwise [spread, put, placeNo, zeroF]
  simp

end Umbrella

end
-- ==== Proof.MeanRow.lean ====
/- The kernel's mean normal at one row is the row's mean normal. -/
module

public import proofs.«01_k».proof.Proof.Normals

@[expose] public section

set_option maxRecDepth 16384

noncomputable section

namespace Umbrella

open Idealize.ShloMosaic Cert.KernelFinIdeal

/-- Each row moved one place around. -/
theorem turn_row (v : FVec Ideal S256x9 .f32) (r : Fin 256) (p : Fin 9) : turn v (ix2 r p) = v (ix2 r (p + 1)) := by
  pointwise [turn]
  have hp : (p + 1).val = (p.val + 1) % 9 := by rw [Fin.val_add]; rfl
  split
  · refine congrArg (fun i => v (ix2 r i)) (Fin.ext ?_)
    rw [hp]
    change 1 + p.val = _
    omega
  · refine congrArg (fun i => v (ix2 r i)) (Fin.ext ?_)
    rw [hp]
    change p.val - 8 = _
    omega

/-- A component of a cross product at a row. -/
theorem cross_row (a b : FVec Ideal S256x9 .f32) (r : Fin 256) (p : Fin 9) :
    crossOf a b (ix2 r p) = a (ix2 r p) * b (ix2 r (p + 1)) - b (ix2 r p) * a (ix2 r (p + 1)) := by
  pointwise [crossOf]
  rw [turn_row, turn_row]

/-- The sum of a row. -/
theorem total_row (v : FVec Ideal S256x9 .f32) (r : Fin 256) : total v (ix2 r 0) = ∑ p, v (ix2 r p) := by
  pointwise [total]

/-- The literal of one. -/
theorem one_f32 : Ideal.ofBits .f32 0x3F800000#32 = (1 : EReal) := by pointwise

/-- One component of the unit normal at a row. -/
theorem unit_row (l n : FVec Ideal S256x9 .f32) (r : Fin 256) (p : Fin 9) :
    unitOf l n (ix2 r p)
      = if l (ix2 r p) = 0 then Ideal.ofBits .f32 0x7FC00000#32 else Ideal.div (n (ix2 r p)) (l (ix2 r p)) := by
  pointwise [unitOf, zeroF]
  split <;> rfl

/-- One component of the oriented normal at a row. -/
theorem orient_row (u n : FVec Ideal S256x9 .f32) (r : Fin 256) (p : Fin 9) :
    orient u n (ix2 r p) = n (ix2 r p) * if 0 < u (ix2 r 0) then 1 else Ideal.ofBits .f32 0xBF800000#32 := by
  pointwise [orient, signOf, zeroF]

/-- The bits of the good places. -/
theorem good_row (badV : FVec Ideal S256x9 .f32 → IVec S256x9 1) (bad : EReal → Bool)
    (hb : ∀ v i, badV v i = BitVec.ofBool (bad (v i))) (a b c : FVec Ideal S256x9 .f32) (i : S256x9.Idx) :
    good badV a b c i = BitVec.ofBool (!(bad (a i) || bad (b i) || bad (c i))) := by
  have : good badV a b c i = IntOp.xori (IntOp.ori (IntOp.ori (badV a i) (badV b i)) (badV c i)) 1#1 := rfl
  rw [this, hb, hb, hb]
  generalize bad (a i) = x
  generalize bad (b i) = y
  generalize bad (c i) = z
  revert x y z
  decide

/-- The chosen place of a row is the first that is not missing. -/
theorem chosen_row (ok : IVec S256x9 1) (r : Fin 256) (miss : Fin 9 → Bool)
    (h : ∀ p, ok (ix2 r p) = BitVec.ofBool (!miss p)) (i : Fin 9) :
    chosen ok (ix2 r i) = BitVec.ofBool (decide (i = firstOf miss)) := by
  have hv : ∀ x : Fin 9, Scalar.select (ok (ix2 r x)) (BitVec.ofNat 32 x.val) 1073741824#32
      = BitVec.ofNat 32 (if miss x then 1073741824 else x.val) := by
    intro x
    rw [h x]
    cases miss x <;> rfl
  have hi : ∀ x : Fin 9, (BitVec.ofNat 32 (if miss x then 1073741824 else x.val)).toInt
      = (if miss x then 1073741824 else x.val : ℕ) := fun x => toInt_ofNat (by split <;> omega)
  have hc : (2147483647#32).toInt = 2147483647 := by decide
  have hf : Finset.fold IntOp.minsi 2147483647#32
      (fun x : Fin 9 => BitVec.ofNat 32 (if miss x then 1073741824 else x.val)) Finset.univ
        = BitVec.ofNat 32 (if miss (firstOf miss) then 1073741824 else (firstOf miss).val) := by
    refine fold_minsi _ _ (firstOf miss) (fun j => ?_) ?_
    · rw [hi, hi]
      rcases firstOf_spec miss with ⟨h1, h2⟩ | ⟨h1, -⟩
      · rw [h1]
        cases hj : miss j
        · have := h2 j hj
          rw [Fin.le_def] at this
          simpa using this
        · have := (firstOf miss).isLt
          simp
          omega
      · rw [h1, h1]; simp
    · rw [hi, hc]
      split <;> omega
  pointwise [chosen, placeNo]
  simp only [hv, hf]
  rcases firstOf_spec miss with ⟨h1, -⟩ | ⟨h1, h2⟩
  · rw [h1]
    simp only [Bool.false_eq_true, if_false]
    rw [show (1073741824#32 : BitVec 32) = BitVec.ofNat 32 1073741824 from rfl, cmpi_eq_ofNat (by omega) (by omega),
      select_ofBool, if_neg (by omega), cmpi_eq_ofNat (by omega) (by omega)]
    simp only [Fin.ext_iff]
  · rw [h1, h2]
    simp only [if_true]
    rw [show (1073741824#32 : BitVec 32) = BitVec.ofNat 32 1073741824 from rfl, cmpi_eq_ofNat (by omega) (by omega),
      select_ofBool, if_pos rfl, show (0#32 : BitVec 32) = BitVec.ofNat 32 0 from rfl,
      cmpi_eq_ofNat (by omega) (by omega)]
    simp only [Fin.ext_iff]
    rfl

/-- The mended normals of a row. -/
theorem mend_row (ok : IVec S256x9 1) (v : FVec Ideal S256x9 .f32) (r : Fin 256) (miss : Fin 9 → Bool)
    (h : ∀ p, ok (ix2 r p) = BitVec.ofBool (!miss p)) (i : Fin 9) :
    mend ok v (ix2 r i) = if miss i then v (ix2 r (firstOf miss)) else v (ix2 r i) := by
  pointwise [mend, total, zeroF]
  simp only [chosen_row ok r miss h, select_ofBool, h]
  rw [sum_pick (firstOf miss) fun x => v (ix2 r x)]
  cases miss i <;> rfl

/-- The weights of a row. -/
theorem weights_row (l : FVec Ideal S256x9 .f32) (r : Fin 256) (s : Fin 9 → Fin 3 → EReal)
    (h : ∀ p, l (ix2 r p) = lenAt s p) (i : Fin 9) : weights l (ix2 r i) = weightAt s i := by
  pointwise [weights, powers, total, logits]
  simp only [h]
  rfl

/-- The kernel's mean normal at a row. -/
theorem normals_row (badV : FVec Ideal S256x9 .f32 → IVec S256x9 1) (bad : EReal → Bool)
    (hb : ∀ v i, badV v i = BitVec.ofBool (bad (v i))) (sx sy sz : FVec Ideal S256x9 .f32) (r : Fin 256)
    (s : Fin 9 → Fin 3 → EReal) (hx : ∀ p, sx (ix2 r p) = s p 0) (hy : ∀ p, sy (ix2 r p) = s p 1)
    (hz : ∀ p, sz (ix2 r p) = s p 2) (a : Fin 3) : normals badV sx sy sz (ix2 r a) = meanNormal s bad a := by
  have nx : ∀ p, crossOf sy sz (ix2 r p) = crossAt s p 0 := fun p => by rw [cross_row, hy, hz, hy, hz]; rfl
  have ny : ∀ p, crossOf sz sx (ix2 r p) = crossAt s p 1 := fun p => by rw [cross_row, hz, hx, hz, hx]; rfl
  have nz : ∀ p, crossOf sx sy (ix2 r p) = crossAt s p 2 := fun p => by rw [cross_row, hx, hy, hx, hy]; rfl
  have hl : ∀ p, lenOf (crossOf sy sz) (crossOf sz sx) (crossOf sx sy) (ix2 r p) = lenAt s p := by
    intro p
    pointwise [lenOf]
    rw [nx, ny, nz, lenAt, Fin.sum_univ_three, add_right_comm]
  unfold normals
  generalize lenOf (crossOf sy sz) (crossOf sz sx) (crossOf sx sy) = l at hl ⊢
  have ux : ∀ p, unitOf l (crossOf sy sz) (ix2 r p) = unitAt s p 0 := fun p => by rw [unit_row, hl, nx]; rfl
  have uy : ∀ p, unitOf l (crossOf sz sx) (ix2 r p) = unitAt s p 1 := fun p => by rw [unit_row, hl, ny]; rfl
  have uz : ∀ p, unitOf l (crossOf sx sy) (ix2 r p) = unitAt s p 2 := fun p => by rw [unit_row, hl, nz]; rfl
  generalize unitOf l (crossOf sy sz) = u at ux ⊢
  generalize unitOf l (crossOf sz sx) = v at uy ⊢
  generalize unitOf l (crossOf sx sy) = w at uz ⊢
  have vx : ∀ p, orient u u (ix2 r p) = normalAt s p 0 := fun p => by rw [orient_row, ux, ux]; rfl
  have vy : ∀ p, orient u v (ix2 r p) = normalAt s p 1 := fun p => by rw [orient_row, uy, ux]; rfl
  have vz : ∀ p, orient u w (ix2 r p) = normalAt s p 2 := fun p => by rw [orient_row, uz, ux]; rfl
  generalize orient u u = e at vx ⊢
  generalize orient u v = f at vy ⊢
  generalize orient u w = g at vz ⊢
  have hk : ∀ p, good badV e f g (ix2 r p) = BitVec.ofBool (!missing s bad p) := fun p => by
    rw [good_row badV bad hb, vx, vy, vz]; rfl
  generalize good badV e f g = ok at hk ⊢
  have hw := weights_row l r s hl
  generalize weights l = wt at hw ⊢
  have m1 := mend_row ok e r _ hk
  have m2 := mend_row ok f r _ hk
  have m3 := mend_row ok g r _ hk
  generalize mend ok e = e' at m1 ⊢
  generalize mend ok f = f' at m2 ⊢
  generalize mend ok g = g' at m3 ⊢
  fin_cases a
  · change _ = ∑ p, mended s bad p 0 * weightAt s p
    simp only [mended, ← vx, ← m1, ← hw]
    pointwise [total]
  · change _ = ∑ p, mended s bad p 1 * weightAt s p
    simp only [mended, ← vy, ← m2, ← hw]
    pointwise [total]
  · change _ = ∑ p, mended s bad p 2 * weightAt s p
    simp only [mended, ← vz, ← m3, ← hw]
    pointwise [total]

end Umbrella

end
-- ==== Proof.Point.lean ====
/- One point of the cloud: its distances, its nine nearest points, their relative positions and azimuths. -/
module

public import proofs.«01_k».proof.Proof.Row

@[expose] public section

noncomputable section

namespace Umbrella

open Idealize.ShloMosaic

/-- The fixed rotation's literals, row by row. -/
def rotBits (b a : Fin 3) : BitVec 32 :=
  ![![0x3F000000#32, 0xBF000000#32, 0x3F350481#32], ![0x3F350481#32, 0x3F350481#32, 0x00000000#32],
    ![0xBF000000#32, 0x3F000000#32, 0x3F350481#32]] b a

variable (c : Fin 10000 → Fin 3 → EReal)

/-- The distance of point `j` from point `i`. -/
def distOf (i j : Fin 10000) : EReal :=
  Ideal.sqrt (max (((∑ a, c i a * c i a) - Ideal.ofBits .f32 0x40000000#32 * ∑ a, c i a * c j a)
    + ∑ a, c j a * c j a) 0)

/-- The `k`-th nearest point. -/
def near (i : Fin 10000) (k : Fin 9) : Fin 10000 := nth (distOf c i) ⟨k.val, by omega⟩

/-- Its position relative to point `i`. -/
def relAt (i : Fin 10000) (k : Fin 9) (a : Fin 3) : EReal := c (near c i k) a - c i a

/-- The azimuth of a relative position, after the rotation. -/
def azimuthOf (v : Fin 3 → EReal) : EReal :=
  Ideal.div (Ideal.atan2 (∑ b, v b * Ideal.ofBits .f32 (rotBits b 1)) (∑ b, v b * Ideal.ofBits .f32 (rotBits b 0)))
    (Ideal.ofBits .f32 0x40C90FDB#32) + Ideal.ofBits .f32 0x3F000000#32

/-- The azimuth of the `k`-th nearest point. -/
def azimAt (i : Fin 10000) (k : Fin 9) : EReal := azimuthOf (relAt c i k)

/-- The mean normal at point `i`. -/
def pointNormal (bad : EReal → Bool) (i : Fin 10000) (a : Fin 3) : EReal :=
  meanNormal (sorted (azimAt c i) (relAt c i)) bad a

/-- Finite coordinates are real numbers. -/
theorem exists_real (hc : ∀ i a, c i a ≠ ⊥ ∧ c i a ≠ ⊤) : ∃ x : Fin 10000 → Fin 3 → ℝ, c = fun i a => (x i a : EReal) :=
  ⟨fun i a => (c i a).toReal, funext fun i => funext fun a => (EReal.coe_toReal (hc i a).2 (hc i a).1).symm⟩

/-- The literal of two. -/
theorem two_f32 : Ideal.ofBits .f32 0x40000000#32 = ((2 : ℝ) : EReal) := by
  simp [Ideal.ofBits, Ideal.ieee]
  rw [← EReal.coe_mul]
  norm_num

/-- Distances between finite points are finite. -/
theorem distOf_lt_top (hc : ∀ i a, c i a ≠ ⊥ ∧ c i a ≠ ⊤) (i j : Fin 10000) : distOf c i j < ⊤ := by
  obtain ⟨x, rfl⟩ := exists_real c hc
  have h : max ((((∑ a, (x i a : EReal) * (x i a : EReal)) - Ideal.ofBits .f32 0x40000000#32
      * ∑ a, (x i a : EReal) * (x j a : EReal)) + ∑ a, (x j a : EReal) * (x j a : EReal))) 0
      = ((max (((∑ a, x i a * x i a) - 2 * ∑ a, x i a * x j a) + ∑ a, x j a * x j a) 0 : ℝ) : EReal) := by
    rw [two_f32]
    simp only [Fin.sum_univ_three]
    rw [EReal.coe_strictMono.monotone.map_max]
    push_cast
    rfl
  unfold distOf
  rw [h, Ideal.sqrt_coe, if_neg (by simp)]
  exact EReal.coe_lt_top _

/-- A sum of squares is never the least value. -/
theorem sq_ne_bot (hc : ∀ i a, c i a ≠ ⊥ ∧ c i a ≠ ⊤) (i : Fin 10000) : (∑ a, c i a * c i a) ≠ ⊥ := by
  obtain ⟨x, rfl⟩ := exists_real c hc
  have h : (∑ a, (x i a : EReal) * (x i a : EReal)) = ((∑ a, x i a * x i a : ℝ) : EReal) := by
    simp only [Fin.sum_univ_three]
    push_cast
    rfl
  rw [h]
  exact EReal.coe_ne_bot _

end Umbrella

end
-- ==== Proof.Block.lean ====
/- The kernel's block at a row that holds a point of the cloud: the nine picked lanes are its nine nearest points and
   the normal is its mean normal. -/
module

public import proofs.«01_k».proof.Proof.MeanRow
public import proofs.«01_k».proof.Proof.Point

@[expose] public section

set_option maxRecDepth 16384

noncomputable section

namespace Umbrella

open Idealize.ShloMosaic Cert.KernelFinIdeal

/-- The block's inputs describe the cloud `c`, and row `r` is point `i`. -/
structure Describes (x0 : FVec Ideal S256x3 .f32) (x1 : FVec Ideal S3x10240 .f32) (x2 : FVec Ideal S256x1 .f32)
    (x3 : FVec Ideal S1x10240 .f32) (x4 : FVec Ideal S80x384 .f32) (x5 : FVec Ideal S3x3 .f32)
    (c : Fin 10000 → Fin 3 → EReal) (r : Fin 256) (i : Fin 10000) : Prop where
  /-- The query row is the point. -/
  query : ∀ a, x0 (ix2 r a) = c i a
  /-- The lanes are the points, then zeros. -/
  point : ∀ a (j : Fin 10240), x1 (ix2 a j) = if h : j.val < 10000 then c ⟨j.val, h⟩ a else 0
  /-- The query's square. -/
  querySq : x2 (ix2 r 0) = ∑ a, c i a * c i a
  /-- The lanes' squares, then infinities. -/
  pointSq : ∀ j : Fin 10240, x3 (ix2 0 j) = if h : j.val < 10000 then ∑ a, c ⟨j.val, h⟩ a * c ⟨j.val, h⟩ a else ⊤
  /-- The points by chunks, first coordinates. -/
  chunk0 : ∀ p : Fin 10000, x4 (ix2 ⟨p.val / 128, by omega⟩ ⟨p.val % 128, by omega⟩) = c p 0
  /-- The points by chunks, second coordinates. -/
  chunk1 : ∀ p : Fin 10000, x4 (ix2 ⟨p.val / 128, by omega⟩ ⟨128 + p.val % 128, by omega⟩) = c p 1
  /-- The points by chunks, third coordinates. -/
  chunk2 : ∀ p : Fin 10000, x4 (ix2 ⟨p.val / 128, by omega⟩ ⟨256 + p.val % 128, by omega⟩) = c p 2
  /-- The rotation. -/
  turn : ∀ b a, x5 (ix2 b a) = Ideal.ofBits .f32 (rotBits b a)

/-- Nine words side by side, at a place. -/
theorem nineI_row (v : ℕ → IVec S256x1 32) (r : Fin 256) (k : Fin 9) : nineI v (ix2 r k) = v k.val (ix2 r 0) := by
  pointwise [nineI]
  fin_cases k <;> rfl

/-- Nine numbers side by side, at a place. -/
theorem nineF_row (v : ℕ → FVec Ideal S256x1 .f32) (r : Fin 256) (k : Fin 9) : nineF v (ix2 r k) = v k.val (ix2 r 0) := by
  pointwise [nineF]
  fin_cases k <;> rfl

variable {x0 : FVec Ideal S256x3 .f32} {x1 : FVec Ideal S3x10240 .f32} {x2 : FVec Ideal S256x1 .f32}
  {x3 : FVec Ideal S1x10240 .f32} {x4 : FVec Ideal S80x384 .f32} {x5 : FVec Ideal S3x3 .f32}
  {c : Fin 10000 → Fin 3 → EReal} {r : Fin 256} {i : Fin 10000}

section Cloud

variable (D : Describes x0 x1 x2 x3 x4 x5 c r i) (hc : ∀ i a, c i a ≠ ⊥ ∧ c i a ≠ ⊤)

include D hc

/-- The distances of the row: those of the point, infinite past the points. -/
theorem dist_row (j : Fin 10240) : dist x0 x1 x2 x3 (ix2 r j) = left (distOf c i) 0 j := by
  rw [left_zero]
  pointwise [dist, zeroF]
  simp only [D.query, D.point, D.querySq, D.pointSq]
  by_cases h : j.val < 10000
  · simp only [dif_pos h]
    rfl
  · simp only [dif_neg h, mul_zero, Finset.sum_const_zero, sub_zero]
    rw [EReal.add_top_of_ne_bot (sq_ne_bot c hc i)]
    simp

/-- The lane picked in round `k` is the `k`-th nearest point. -/
theorem lanes_row (k : Fin 9) : lanes x0 x1 x2 x3 k.val (ix2 r 0) = BitVec.ofNat 32 (near c i k).val :=
  pick_stage (dist x0 x1 x2 x3) r (distOf c i) (distOf_lt_top c hc i) (dist_row D hc) ⟨k.val, by omega⟩

/-- The first relative coordinate. -/
theorem relX_row (k : Fin 9) : relX x0 x1 x2 x3 x4 k.val (ix2 r 0) = relAt c i k 0 := by
  unfold relX relAt
  rw [shapeCast_self, shapeCast_self, gx_row _ r (near c i k) (lanes_row D hc k), D.chunk0, D.query]

/-- The second relative coordinate. -/
theorem relY_row (k : Fin 9) : relY x0 x1 x2 x3 x4 k.val (ix2 r 0) = relAt c i k 1 := by
  unfold relY relAt
  rw [shapeCast_self, shapeCast_self, gy_row _ r (near c i k) (lanes_row D hc k), D.chunk1, D.query]

/-- The third relative coordinate. -/
theorem relZ_row (k : Fin 9) : relZ x0 x1 x2 x3 x4 k.val (ix2 r 0) = relAt c i k 2 := by
  unfold relZ relAt
  rw [shapeCast_self, shapeCast_self, gz_row _ r (near c i k) (lanes_row D hc k), D.chunk2, D.query]

/-- The azimuth of the `k`-th relative point. -/
theorem angle_row (k : Fin 9) : angle x5 (relX x0 x1 x2 x3 x4 k.val) (relY x0 x1 x2 x3 x4 k.val)
    (relZ x0 x1 x2 x3 x4 k.val) (ix2 r 0) = azimAt c i k := by
  pointwise [angle, turned]
  simp only [Fin.sum_univ_three, D.turn, azimAt, azimuthOf, ← relX_row D hc k, ← relY_row D hc k, ← relZ_row D hc k]
  rfl

/-- The azimuths of the row. -/
theorem angles_row (k : Fin 9) : angles x0 x1 x2 x3 x4 x5 (ix2 r k) = azimAt c i k := by
  rw [← angle_row D hc k, angles, nineF_row]

/-- The picked lanes side by side. -/
theorem nine_row (k : Fin 9) : nineI (lanes x0 x1 x2 x3) (ix2 r k) = BitVec.ofNat 32 (near c i k).val := by
  rw [← lanes_row D hc k, nineI_row]

/-- The block's normal at the row. -/
theorem block_row (badV : FVec Ideal S256x9 .f32 → IVec S256x9 1) (bad : EReal → Bool)
    (hb : ∀ v i, badV v i = BitVec.ofBool (bad (v i))) (a : Fin 3) :
    blockNormals x0 x1 x2 x3 x4 x5 badV (ix2 r a) = pointNormal c bad i a := by
  have hs : (fun j => angles x0 x1 x2 x3 x4 x5 (ix2 r j)) = azimAt c i := funext (angles_row D hc)
  refine normals_row badV bad hb _ _ _ r _ (fun p => ?_) (fun p => ?_) (fun p => ?_) a
  · rw [spread_row, hs, relX_row D hc]; rfl
  · rw [spread_row, hs, relY_row D hc]; rfl
  · rw [spread_row, hs, relZ_row D hc]; rfl

end Cloud

/-- The test for a component that is not finite, at an element. -/
theorem notFinite_row (v : FVec Ideal S256x9 .f32) (i : S256x9.Idx) :
    notFinite v i = BitVec.ofBool (!decide (max (v i) (-(v i)) < (⊤ : EReal))) := by
  pointwise [notFinite]
  rw [inf_f32]
  cases decide (max (v i) (-(v i)) < (⊤ : EReal)) <;> rfl

/-- The test for a component that is not a number never holds. -/
theorem notNumber_row (v : FVec Ideal S256x9 .f32) (i : S256x9.Idx) : notNumber v i = BitVec.ofBool false := by
  pointwise [notNumber]
  simp

end Umbrella

end
-- ==== Proof.Entry.lean ====
/- What the host operations before the kernel make of the cloud, read at coordinates. -/
module

public import proofs.«01_k».proof.Proof.Vec
public import proofs.«01_k».proof.Proof.Point
public import proofs.«01_k».proof.Proof.Rounds

@[expose] public section

set_option maxRecDepth 16384

noncomputable section

namespace Umbrella

open Idealize.ShloMosaic Cert.KernelFinIdeal
open Cert.KernelFinIdeal.Facts₀ Cert.KernelFinIdeal.Facts

section Defs

variable {F : FTy → Type} [FloatOps F] (X : FVec F S10000x3 .f32)

/-- The cloud padded with zero points. -/
def padded : FVec F S10240x3 .f32 :=
  pad S10240x3 ![0, 0] ![240, 0] ![0, 0] X (sitofp .f32 (constantI S_ 32 0#32)) pads_S10000x3_S10240x3_02400_000 h_S_
/-- The sums of squares. -/
def squares : FVec F S10000 .f32 :=
  Host.reduceAdd (mulf X X) (constant S_ .f32 0x00000000#32) reducesTo_S10000x3_S10000_d1 h_S_
/-- The padded cloud, coordinates first. -/
def lanesOf : FVec F S3x10240 .f32 := transpose S3x10240 [1, 0] (padded X) transposes_S10240x3_S3x10240_1_0
/-- The queries' sums of squares. -/
def querySquares : FVec F S10240x1 .f32 :=
  shapeCast S10240x1 (pad S10240 ![0] ![240] ![0] (squares X) (sitofp .f32 (constantI S_ 32 0#32))
    pads_S10000_S10240_02400 h_S_) shapeCasts_S10240_S10240x1
/-- The points' sums of squares, infinite past the points. -/
def pointSquares : FVec F S1x10240 .f32 :=
  shapeCast S1x10240 (pad S10240 ![0] ![240] ![0] (squares X) (constant S_ .f32 0x7F800000#32)
    pads_S10000_S10240_02400 h_S_) shapeCasts_S10240_S1x10240
/-- The padded cloud by chunks of 128 points, in each chunk coordinates first. -/
def chunks : FVec F S80x384 .f32 :=
  shapeCast S80x384 (transpose S80x3x128 [0, 2, 1] (shapeCast S80x128x3 (padded X) shapeCasts_S10240x3_S80x128x3)
    transposes_S80x128x3_S80x3x128_0_2_1) shapeCasts_S80x3x128_S80x384
/-- The rotation. -/
def rotation : FVec F S3x3 .f32 := fun i => FloatOps.ofBits .f32 (lit0 (S3x3.rowMajor i))

end Defs

variable (X : FVec Ideal S10000x3 .f32)

/-- The word zero as a number. -/
theorem zero_word : FloatOps.sitofp (F := Ideal) .f32 0#32 = (0 : EReal) := by
  simp [FloatOps.sitofp]

/-- The padded cloud at coordinates. -/
theorem padded_at (j : Fin 10240) (a : Fin 3) :
    padded X (ix2 j a) = if h : j.val < 10000 then X (ix2 ⟨j.val, h⟩ a) else 0 := by
  pointwise [padded]
  rw [zero_word]

/-- The lanes at coordinates. -/
theorem lanesOf_at (j : Fin 10240) (a : Fin 3) : lanesOf X (ix2 a j) = padded X (ix2 j a) := by
  pointwise [lanesOf]

/-- The sums of squares at a point. -/
theorem squares_at (j : Fin 10000) : squares X (ix1 j) = ∑ a, X (ix2 j a) * X (ix2 j a) := by
  pointwise [squares]

/-- The queries' sums of squares at a point. -/
theorem querySquares_at (j : Fin 10240) :
    querySquares X (ix2 j 0) = if h : j.val < 10000 then squares X (ix1 ⟨j.val, h⟩) else 0 := by
  pointwise [querySquares]
  rw [zero_word]

/-- The points' sums of squares at a lane. -/
theorem pointSquares_at (j : Fin 10240) :
    pointSquares X (ix2 0 j) = if h : j.val < 10000 then squares X (ix1 ⟨j.val, h⟩) else ⊤ := by
  pointwise [pointSquares]
  rw [inf_f32]

/-- The chunks at coordinates. -/
theorem chunks_at (k : Fin 80) (l : Fin 384) :
    chunks X (ix2 k l) = padded X (ix2 ⟨k.val * 128 + l.val % 128, by omega⟩ ⟨l.val / 128, by omega⟩) := by
  pointwise [chunks]

/-- The rotation's entries. -/
theorem rotation_at (b a : Fin 3) : rotation (F := Ideal) (ix2 b a) = Ideal.ofBits .f32 (rotBits b a) := by
  fin_cases b <;> fin_cases a <;> rfl

end Umbrella

end
-- ==== Proof.MatchFin.lean ====
/- The named values of the generated body of KernelFinIdeal, matched with the vector functions of `Vec`. -/
module

public import proofs.«01_k».proof.Proof.Gen.KernelFinIdeal.Frame
public import proofs.«01_k».proof.Proof.Vec

@[expose] public section

set_option maxRecDepth 16384

noncomputable section

namespace Umbrella.MatchFin

open Idealize.ShloMosaic Cert.KernelFinIdeal Cert.KernelFinIdeal.Gen

variable {F : FTy → Type} [FloatOps F]
variable (x0 : Vec F S256x3 .f32) (x1 : Vec F S3x10240 .f32) (x2 : Vec F S256x1 .f32) (x3 : Vec F S1x10240 .f32)
  (x4 : Vec F S80x384 .f32) (x5 : Vec F S3x3 .f32)

/-- The distances left after 1 round. -/
theorem left1 : k0_pay168 x0 x1 x2 x3 x4 x5 = stage (dist (View.ld x0 r0_0) (View.ld x1 r0_1) (View.ld x2 r0_2) (View.ld x3 r0_3)) 1 := rfl

/-- The distances left after 2 rounds. -/
theorem left2 : k0_pay173 x0 x1 x2 x3 x4 x5 = stage (dist (View.ld x0 r0_0) (View.ld x1 r0_1) (View.ld x2 r0_2) (View.ld x3 r0_3)) 2 := by
  have h : k0_pay173 x0 x1 x2 x3 x4 x5 = drop (k0_pay168 x0 x1 x2 x3 x4 x5) := rfl
  rw [h, left1]; rfl

/-- The distances left after 3 rounds. -/
theorem left3 : k0_pay175 x0 x1 x2 x3 x4 x5 = stage (dist (View.ld x0 r0_0) (View.ld x1 r0_1) (View.ld x2 r0_2) (View.ld x3 r0_3)) 3 := by
  have h : k0_pay175 x0 x1 x2 x3 x4 x5 = drop (k0_pay173 x0 x1 x2 x3 x4 x5) := rfl
  rw [h, left2]; rfl

/-- The distances left after 4 rounds. -/
theorem left4 : k0_pay181 x0 x1 x2 x3 x4 x5 = stage (dist (View.ld x0 r0_0) (View.ld x1 r0_1) (View.ld x2 r0_2) (View.ld x3 r0_3)) 4 := by
  have h : k0_pay181 x0 x1 x2 x3 x4 x5 = drop (k0_pay175 x0 x1 x2 x3 x4 x5) := rfl
  rw [h, left3]; rfl

/-- The distances left after 5 rounds. -/
theorem left5 : k0_pay188 x0 x1 x2 x3 x4 x5 = stage (dist (View.ld x0 r0_0) (View.ld x1 r0_1) (View.ld x2 r0_2) (View.ld x3 r0_3)) 5 := by
  have h : k0_pay188 x0 x1 x2 x3 x4 x5 = drop (k0_pay181 x0 x1 x2 x3 x4 x5) := rfl
  rw [h, left4]; rfl

/-- The distances left after 6 rounds. -/
theorem left6 : k0_pay193 x0 x1 x2 x3 x4 x5 = stage (dist (View.ld x0 r0_0) (View.ld x1 r0_1) (View.ld x2 r0_2) (View.ld x3 r0_3)) 6 := by
  have h : k0_pay193 x0 x1 x2 x3 x4 x5 = drop (k0_pay188 x0 x1 x2 x3 x4 x5) := rfl
  rw [h, left5]; rfl

/-- The distances left after 7 rounds. -/
theorem left7 : k0_pay198 x0 x1 x2 x3 x4 x5 = stage (dist (View.ld x0 r0_0) (View.ld x1 r0_1) (View.ld x2 r0_2) (View.ld x3 r0_3)) 7 := by
  have h : k0_pay198 x0 x1 x2 x3 x4 x5 = drop (k0_pay193 x0 x1 x2 x3 x4 x5) := rfl
  rw [h, left6]; rfl

/-- The distances left after 8 rounds. -/
theorem left8 : k0_pay200 x0 x1 x2 x3 x4 x5 = stage (dist (View.ld x0 r0_0) (View.ld x1 r0_1) (View.ld x2 r0_2) (View.ld x3 r0_3)) 8 := by
  have h : k0_pay200 x0 x1 x2 x3 x4 x5 = drop (k0_pay198 x0 x1 x2 x3 x4 x5) := rfl
  rw [h, left7]; rfl

/-- The azimuths of round 0. -/
theorem angle0 : k0_pay170 x0 x1 x2 x3 x4 x5 = angle (View.ld x5 r0_5) (relX (View.ld x0 r0_0) (View.ld x1 r0_1) (View.ld x2 r0_2) (View.ld x3 r0_3) (View.ld x4 r0_4) 0) (relY (View.ld x0 r0_0) (View.ld x1 r0_1) (View.ld x2 r0_2) (View.ld x3 r0_3) (View.ld x4 r0_4) 0) (relZ (View.ld x0 r0_0) (View.ld x1 r0_1) (View.ld x2 r0_2) (View.ld x3 r0_3) (View.ld x4 r0_4) 0) := by
  unfold relX relY relZ lanes; rfl

/-- The azimuths of round 1. -/
theorem angle1 : k0_pay174 x0 x1 x2 x3 x4 x5 = angle (View.ld x5 r0_5) (relX (View.ld x0 r0_0) (View.ld x1 r0_1) (View.ld x2 r0_2) (View.ld x3 r0_3) (View.ld x4 r0_4) 1) (relY (View.ld x0 r0_0) (View.ld x1 r0_1) (View.ld x2 r0_2) (View.ld x3 r0_3) (View.ld x4 r0_4) 1) (relZ (View.ld x0 r0_0) (View.ld x1 r0_1) (View.ld x2 r0_2) (View.ld x3 r0_3) (View.ld x4 r0_4) 1) := by
  unfold relX relY relZ lanes; rw [← left1]; rfl

/-- The azimuths of round 2. -/
theorem angle2 : k0_pay180 x0 x1 x2 x3 x4 x5 = angle (View.ld x5 r0_5) (relX (View.ld x0 r0_0) (View.ld x1 r0_1) (View.ld x2 r0_2) (View.ld x3 r0_3) (View.ld x4 r0_4) 2) (relY (View.ld x0 r0_0) (View.ld x1 r0_1) (View.ld x2 r0_2) (View.ld x3 r0_3) (View.ld x4 r0_4) 2) (relZ (View.ld x0 r0_0) (View.ld x1 r0_1) (View.ld x2 r0_2) (View.ld x3 r0_3) (View.ld x4 r0_4) 2) := by
  unfold relX relY relZ lanes; rw [← left2]; rfl

/-- The azimuths of round 3. -/
theorem angle3 : k0_pay187 x0 x1 x2 x3 x4 x5 = angle (View.ld x5 r0_5) (relX (View.ld x0 r0_0) (View.ld x1 r0_1) (View.ld x2 r0_2) (View.ld x3 r0_3) (View.ld x4 r0_4) 3) (relY (View.ld x0 r0_0) (View.ld x1 r0_1) (View.ld x2 r0_2) (View.ld x3 r0_3) (View.ld x4 r0_4) 3) (relZ (View.ld x0 r0_0) (View.ld x1 r0_1) (View.ld x2 r0_2) (View.ld x3 r0_3) (View.ld x4 r0_4) 3) := by
  unfold relX relY relZ lanes; rw [← left3]; rfl

/-- The azimuths of round 4. -/
theorem angle4 : k0_pay191 x0 x1 x2 x3 x4 x5 = angle (View.ld x5 r0_5) (relX (View.ld x0 r0_0) (View.ld x1 r0_1) (View.ld x2 r0_2) (View.ld x3 r0_3) (View.ld x4 r0_4) 4) (relY (View.ld x0 r0_0) (View.ld x1 r0_1) (View.ld x2 r0_2) (View.ld x3 r0_3) (View.ld x4 r0_4) 4) (relZ (View.ld x0 r0_0) (View.ld x1 r0_1) (View.ld x2 r0_2) (View.ld x3 r0_3) (View.ld x4 r0_4) 4) := by
  unfold relX relY relZ lanes; rw [← left4]; rfl

/-- The azimuths of round 5. -/
theorem angle5 : k0_pay195 x0 x1 x2 x3 x4 x5 = angle (View.ld x5 r0_5) (relX (View.ld x0 r0_0) (View.ld x1 r0_1) (View.ld x2 r0_2) (View.ld x3 r0_3) (View.ld x4 r0_4) 5) (relY (View.ld x0 r0_0) (View.ld x1 r0_1) (View.ld x2 r0_2) (View.ld x3 r0_3) (View.ld x4 r0_4) 5) (relZ (View.ld x0 r0_0) (View.ld x1 r0_1) (View.ld x2 r0_2) (View.ld x3 r0_3) (View.ld x4 r0_4) 5) := by
  unfold relX relY relZ lanes; rw [← left5]; rfl

/-- The azimuths of round 6. -/
theorem angle6 : k0_pay199 x0 x1 x2 x3 x4 x5 = angle (View.ld x5 r0_5) (relX (View.ld x0 r0_0) (View.ld x1 r0_1) (View.ld x2 r0_2) (View.ld x3 r0_3) (View.ld x4 r0_4) 6) (relY (View.ld x0 r0_0) (View.ld x1 r0_1) (View.ld x2 r0_2) (View.ld x3 r0_3) (View.ld x4 r0_4) 6) (relZ (View.ld x0 r0_0) (View.ld x1 r0_1) (View.ld x2 r0_2) (View.ld x3 r0_3) (View.ld x4 r0_4) 6) := by
  unfold relX relY relZ lanes; rw [← left6]; rfl

/-- The azimuths of round 7. -/
theorem angle7 : k0_pay206 x0 x1 x2 x3 x4 x5 = angle (View.ld x5 r0_5) (relX (View.ld x0 r0_0) (View.ld x1 r0_1) (View.ld x2 r0_2) (View.ld x3 r0_3) (View.ld x4 r0_4) 7) (relY (View.ld x0 r0_0) (View.ld x1 r0_1) (View.ld x2 r0_2) (View.ld x3 r0_3) (View.ld x4 r0_4) 7) (relZ (View.ld x0 r0_0) (View.ld x1 r0_1) (View.ld x2 r0_2) (View.ld x3 r0_3) (View.ld x4 r0_4) 7) := by
  unfold relX relY relZ lanes; rw [← left7]; rfl

/-- The nine azimuths side by side. -/
theorem angles_eq : k0_pay212 x0 x1 x2 x3 x4 x5 = angles (View.ld x0 r0_0) (View.ld x1 r0_1) (View.ld x2 r0_2) (View.ld x3 r0_3) (View.ld x4 r0_4) (View.ld x5 r0_5) := by
  unfold angles nineF; dsimp only
  rw [← angle0, ← angle1, ← angle2, ← angle3, ← angle4, ← angle5, ← angle6, ← angle7]
  unfold relX relY relZ lanes; rw [← left8]; rfl

/-- The rank of neighbour 0. -/
theorem rank0 : k0_pay213 x0 x1 x2 x3 x4 x5 = rank (angles (View.ld x0 r0_0) (View.ld x1 r0_1) (View.ld x2 r0_2) (View.ld x3 r0_3) (View.ld x4 r0_4) (View.ld x5 r0_5)) 0 := by
  rw [← angles_eq]; rfl

/-- The rank of neighbour 1. -/
theorem rank1 : k0_pay214 x0 x1 x2 x3 x4 x5 = rank (angles (View.ld x0 r0_0) (View.ld x1 r0_1) (View.ld x2 r0_2) (View.ld x3 r0_3) (View.ld x4 r0_4) (View.ld x5 r0_5)) 1 := by
  rw [← angles_eq]; rfl

/-- The rank of neighbour 2. -/
theorem rank2 : k0_pay215 x0 x1 x2 x3 x4 x5 = rank (angles (View.ld x0 r0_0) (View.ld x1 r0_1) (View.ld x2 r0_2) (View.ld x3 r0_3) (View.ld x4 r0_4) (View.ld x5 r0_5)) 2 := by
  rw [← angles_eq]; rfl

/-- The rank of neighbour 3. -/
theorem rank3 : k0_pay216 x0 x1 x2 x3 x4 x5 = rank (angles (View.ld x0 r0_0) (View.ld x1 r0_1) (View.ld x2 r0_2) (View.ld x3 r0_3) (View.ld x4 r0_4) (View.ld x5 r0_5)) 3 := by
  rw [← angles_eq]; rfl

/-- The rank of neighbour 4. -/
theorem rank4 : k0_pay217 x0 x1 x2 x3 x4 x5 = rank (angles (View.ld x0 r0_0) (View.ld x1 r0_1) (View.ld x2 r0_2) (View.ld x3 r0_3) (View.ld x4 r0_4) (View.ld x5 r0_5)) 4 := by
  rw [← angles_eq]; rfl

/-- The rank of neighbour 5. -/
theorem rank5 : k0_pay218 x0 x1 x2 x3 x4 x5 = rank (angles (View.ld x0 r0_0) (View.ld x1 r0_1) (View.ld x2 r0_2) (View.ld x3 r0_3) (View.ld x4 r0_4) (View.ld x5 r0_5)) 5 := by
  rw [← angles_eq]; rfl

/-- The rank of neighbour 6. -/
theorem rank6 : k0_pay219 x0 x1 x2 x3 x4 x5 = rank (angles (View.ld x0 r0_0) (View.ld x1 r0_1) (View.ld x2 r0_2) (View.ld x3 r0_3) (View.ld x4 r0_4) (View.ld x5 r0_5)) 6 := by
  rw [← angles_eq]; rfl

/-- The rank of neighbour 7. -/
theorem rank7 : k0_pay220 x0 x1 x2 x3 x4 x5 = rank (angles (View.ld x0 r0_0) (View.ld x1 r0_1) (View.ld x2 r0_2) (View.ld x3 r0_3) (View.ld x4 r0_4) (View.ld x5 r0_5)) 7 := by
  rw [← angles_eq]; rfl

/-- The rank of neighbour 8. -/
theorem rank8 : k0_pay221 x0 x1 x2 x3 x4 x5 = rank (angles (View.ld x0 r0_0) (View.ld x1 r0_1) (View.ld x2 r0_2) (View.ld x3 r0_3) (View.ld x4 r0_4) (View.ld x5 r0_5)) 8 := by
  rw [← angles_eq]; rfl

/-- The sorted relative points, coordinate X. -/
theorem sortedX : k0_pay222 x0 x1 x2 x3 x4 x5 = spread (rank (angles (View.ld x0 r0_0) (View.ld x1 r0_1) (View.ld x2 r0_2) (View.ld x3 r0_3) (View.ld x4 r0_4) (View.ld x5 r0_5))) (relX (View.ld x0 r0_0) (View.ld x1 r0_1) (View.ld x2 r0_2) (View.ld x3 r0_3) (View.ld x4 r0_4)) := by
  unfold spread; rw [← rank0, ← rank1, ← rank2, ← rank3, ← rank4, ← rank5, ← rank6, ← rank7, ← rank8]
  unfold relX lanes; rw [← left1, ← left2, ← left3, ← left4, ← left5, ← left6, ← left7, ← left8]; rfl

/-- The sorted relative points, coordinate Y. -/
theorem sortedY : k0_pay223 x0 x1 x2 x3 x4 x5 = spread (rank (angles (View.ld x0 r0_0) (View.ld x1 r0_1) (View.ld x2 r0_2) (View.ld x3 r0_3) (View.ld x4 r0_4) (View.ld x5 r0_5))) (relY (View.ld x0 r0_0) (View.ld x1 r0_1) (View.ld x2 r0_2) (View.ld x3 r0_3) (View.ld x4 r0_4)) := by
  unfold spread; rw [← rank0, ← rank1, ← rank2, ← rank3, ← rank4, ← rank5, ← rank6, ← rank7, ← rank8]
  unfold relY lanes; rw [← left1, ← left2, ← left3, ← left4, ← left5, ← left6, ← left7, ← left8]; rfl

/-- The sorted relative points, coordinate Z. -/
theorem sortedZ : k0_pay136 (k0_pay164 x0 x1 x2 x3 x4 x5) (k0_pay205 x0 x1 x2 x3 x4 x5) (k0_pay211 x0 x1 x2 x3 x4 x5) (k0_pay220 x0 x1 x2 x3 x4 x5) (k0_pay221 x0 x1 x2 x3 x4 x5) (k0_pay224 x0 x1 x2 x3 x4 x5) (k0_pay225 x0 x1 x2 x3 x4 x5) (k0_pay226 x0 x1 x2 x3 x4 x5) (k0_pay227 x0 x1 x2 x3 x4 x5) = spread (rank (angles (View.ld x0 r0_0) (View.ld x1 r0_1) (View.ld x2 r0_2) (View.ld x3 r0_3) (View.ld x4 r0_4) (View.ld x5 r0_5))) (relZ (View.ld x0 r0_0) (View.ld x1 r0_1) (View.ld x2 r0_2) (View.ld x3 r0_3) (View.ld x4 r0_4)) := by
  unfold spread; rw [← rank0, ← rank1, ← rank2, ← rank3, ← rank4, ← rank5, ← rank6, ← rank7, ← rank8]
  unfold relZ lanes; rw [← left1, ← left2, ← left3, ← left4, ← left5, ← left6, ← left7, ← left8]; rfl

/-- The picked lanes the block leaves. -/
theorem out6_eq : out0_6 x0 x1 x2 x3 x4 x5 = View.canon [⟨r0_6, nineI (lanes (View.ld x0 r0_0) (View.ld x1 r0_1) (View.ld x2 r0_2) (View.ld x3 r0_3))⟩] := by
  unfold nineI lanes; rw [← left1, ← left2, ← left3, ← left4, ← left5, ← left6, ← left7, ← left8]; rfl

/-- The normals the block leaves. -/
theorem out7_eq : out0_7 x0 x1 x2 x3 x4 x5 = View.canon [⟨r0_0, blockNormals (View.ld x0 r0_0) (View.ld x1 r0_1) (View.ld x2 r0_2) (View.ld x3 r0_3) (View.ld x4 r0_4) (View.ld x5 r0_5) notFinite⟩] := by
  unfold blockNormals; rw [← sortedX, ← sortedY, ← sortedZ]; rfl

end Umbrella.MatchFin
-- ==== Proof.RunFin.lean ====
/- The run of the kernel that tests for finiteness: its two results are, at every point of the cloud, the nine nearest
   points and the mean normal. -/
module

public import proofs.«01_k».proof.Proof.Block
public import proofs.«01_k».proof.Proof.Entry
public import proofs.«01_k».proof.Proof.MatchFin
public import proofs.«01_k».proof.Proof.Gen.KernelFinIdeal.Frame
public import Idealize.ShloMosaic.Lib.Pipeline.ValueKit

@[expose] public section

set_option maxRecDepth 16384

noncomputable section

namespace Umbrella.RunFin

open Idealize.ShloMosaic Idealize.ShloMosaic.TcCoe Idealize.SL.Sem Cert.KernelFinIdeal Cert.KernelFinIdeal.Gen

variable (m : (ℓ : Loc nD τ sig) → Buf (Elt Ideal) ℓ) (c : Dev nD)

/-- The cloud as the argument holds it. -/
abbrev arg : FVec Ideal S10000x3 .f32 := m ((c : Thread nD τ).loc main_arg0)

/-- The cloud by points and coordinates. -/
def cloud (i : Fin 10000) (a : Fin 3) : EReal := arg m c (ix2 i a)

/-! ## The arrays at the kernel's entry -/

/-- The queries are the padded cloud. -/
theorem V_query : V m c main_call0_v0 = padded (F := Ideal) (arg m c) := by
  show StableHlo.after hostOps0 _ (Proc.devRef .tc main_call0_v0) = _
  after_results
  rfl

/-- The lanes are the padded cloud, coordinates first. -/
theorem V_lanes : V m c main_call0_v8 = lanesOf (F := Ideal) (arg m c) := by
  show StableHlo.after hostOps0 _ (Proc.devRef .tc main_call0_v8) = _
  after_results
  rfl

/-- The queries' sums of squares. -/
theorem V_querySquares : V m c main_call0_v9 = querySquares (F := Ideal) (arg m c) := by
  show StableHlo.after hostOps0 _ (Proc.devRef .tc main_call0_v9) = _
  after_results
  rfl

/-- The points' sums of squares. -/
theorem V_pointSquares : V m c main_call0_v10 = pointSquares (F := Ideal) (arg m c) := by
  show StableHlo.after hostOps0 _ (Proc.devRef .tc main_call0_v10) = _
  after_results
  rfl

/-- The chunks. -/
theorem V_chunks : V m c main_call0_v7 = chunks (F := Ideal) (arg m c) := by
  show StableHlo.after hostOps0 _ (Proc.devRef .tc main_call0_v7) = _
  after_results
  rfl

/-- The rotation. -/
theorem V_rotation : V m c main_call0_cst = rotation (F := Ideal) := by
  show StableHlo.after hostOps0 _ (Proc.devRef .tc main_call0_cst) = _
  after_results
  rfl

/-! ## The blocks -/

/-- Where the windows stand at a grid point: those of a block of points at that block, the others at the whole array. -/
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel

/-- There are forty grid points. -/
theorem point_lt (t : Fin cfg0.N) : t.val < 40 := t.isLt

theorem block0 (t : Fin cfg0.N) (r : Fin 256) (a : Fin 3) : iblk m c 0 t (ix2 r a)
    = padded (arg m c) (ix2 ⟨t.val * 256 + r.val, by have := point_lt t; omega⟩ a) := by
  rw [← V_query]
  blk_simp [iblk]
  refine congrArg (V m c main_call0_v0) ?_
  blk_ext [index0]

theorem block1 (t : Fin cfg0.N) (a : Fin 3) (j : Fin 10240) : iblk m c 1 t (ix2 a j) = lanesOf (arg m c) (ix2 a j) := by
  rw [← V_lanes]
  blk_simp [iblk]
  refine congrArg (V m c main_call0_v8) ?_
  blk_ext [index1]

theorem block2 (t : Fin cfg0.N) (r : Fin 256) : iblk m c 2 t (ix2 r 0)
    = querySquares (arg m c) (ix2 ⟨t.val * 256 + r.val, by have := point_lt t; omega⟩ 0) := by
  rw [← V_querySquares]
  blk_simp [iblk]
  refine congrArg (V m c main_call0_v9) ?_
  blk_ext [index2]

theorem block3 (t : Fin cfg0.N) (j : Fin 10240) : iblk m c 3 t (ix2 0 j) = pointSquares (arg m c) (ix2 0 j) := by
  rw [← V_pointSquares]
  blk_simp [iblk]
  refine congrArg (V m c main_call0_v10) ?_
  blk_ext [index3]

theorem block4 (t : Fin cfg0.N) (k : Fin 80) (l : Fin 384) : iblk m c 4 t (ix2 k l) = chunks (arg m c) (ix2 k l) := by
  rw [← V_chunks]
  blk_simp [iblk]
  refine congrArg (V m c main_call0_v7) ?_
  blk_ext [index4]

theorem block5 (t : Fin cfg0.N) (b a : Fin 3) : iblk m c 5 t (ix2 b a) = rotation (F := Ideal) (ix2 b a) := by
  rw [← V_rotation m c]
  blk_simp [iblk]
  refine congrArg (V m c main_call0_cst) ?_
  blk_ext [index5]

/-- A row of a block that holds a point describes it. -/
theorem describes (t : Fin cfg0.N) (r : Fin 256) (h : t.val * 256 + r.val < 10000) :
    Describes (iblk m c 0 t) (iblk m c 1 t) (iblk m c 2 t) (iblk m c 3 t) (iblk m c 4 t) (iblk m c 5 t)
      (cloud m c) r ⟨t.val * 256 + r.val, h⟩ where
  query a := by rw [block0, padded_at]; exact dif_pos h
  point a j := by rw [block1, lanesOf_at, padded_at]; rfl
  querySq := by rw [block2, querySquares_at]; exact (dif_pos h).trans (squares_at _ _)
  pointSq j := by rw [block3, pointSquares_at]; simp only [squares_at]; rfl
  chunk0 p := by
    rw [block4, chunks_at, padded_at]
    refine (dif_pos (show p.val / 128 * 128 + p.val % 128 % 128 < 10000 by omega)).trans (congrArg (arg m c) ?_)
    exact congrArg₂ ix2 (Fin.ext (show p.val / 128 * 128 + p.val % 128 % 128 = p.val by omega))
      (Fin.ext (show p.val % 128 / 128 = 0 by omega))
  chunk1 p := by
    rw [block4, chunks_at, padded_at]
    refine (dif_pos (show p.val / 128 * 128 + (128 + p.val % 128) % 128 < 10000 by omega)).trans (congrArg (arg m c) ?_)
    exact congrArg₂ ix2 (Fin.ext (show p.val / 128 * 128 + (128 + p.val % 128) % 128 = p.val by omega))
      (Fin.ext (show (128 + p.val % 128) / 128 = 1 by omega))
  chunk2 p := by
    rw [block4, chunks_at, padded_at]
    refine (dif_pos (show p.val / 128 * 128 + (256 + p.val % 128) % 128 < 10000 by omega)).trans (congrArg (arg m c) ?_)
    exact congrArg₂ ix2 (Fin.ext (show p.val / 128 * 128 + (256 + p.val % 128) % 128 = p.val by omega))
      (Fin.ext (show (256 + p.val % 128) / 128 = 2 by omega))
  turn b a := by rw [block5, rotation_at]

/-- The test the kernel puts to a component. -/
def bad (v : EReal) : Bool := !decide (max v (-v) < (⊤ : EReal))

/-- Every access of the kernel is to the whole of its block. -/
theorem load0 (x : Vec Ideal S256x3 .f32) : View.ld x r0_0 = x := View.ld_unit_zero (by funext a; fin_cases a <;> rfl) _ x
theorem load1 (x : Vec Ideal S3x10240 .f32) : View.ld x r0_1 = x := View.ld_unit_zero (by funext a; fin_cases a <;> rfl) _ x
theorem load2 (x : Vec Ideal S256x1 .f32) : View.ld x r0_2 = x := View.ld_unit_zero (by funext a; fin_cases a <;> rfl) _ x
theorem load3 (x : Vec Ideal S1x10240 .f32) : View.ld x r0_3 = x := View.ld_unit_zero (by funext a; fin_cases a <;> rfl) _ x
theorem load4 (x : Vec Ideal S80x384 .f32) : View.ld x r0_4 = x := View.ld_unit_zero (by funext a; fin_cases a <;> rfl) _ x
theorem load5 (x : Vec Ideal S3x3 .f32) : View.ld x r0_5 = x := View.ld_unit_zero (by funext a; fin_cases a <;> rfl) _ x
theorem store6 (x : Vec Ideal S256x9 .i32) : View.canon [⟨r0_6, x⟩] = x := View.canon_unit_zero (by funext a; fin_cases a <;> rfl) _ x
theorem store7 (x : Vec Ideal S256x3 .f32) : View.canon [⟨r0_0, x⟩] = x := View.canon_unit_zero (by funext a; fin_cases a <;> rfl) _ x

/-- The picked lanes a block leaves, whole. -/
theorem picked (x0 : FVec Ideal S256x3 .f32) (x1 : FVec Ideal S3x10240 .f32) (x2 : FVec Ideal S256x1 .f32)
    (x3 : FVec Ideal S1x10240 .f32) (x4 : FVec Ideal S80x384 .f32) (x5 : FVec Ideal S3x3 .f32) :
    out0_6 (F := Ideal) x0 x1 x2 x3 x4 x5 = nineI (lanes x0 x1 x2 x3) := by
  rw [MatchFin.out6_eq, store6, load0, load1, load2, load3]

/-- The normals a block leaves, whole. -/
theorem normals (x0 : FVec Ideal S256x3 .f32) (x1 : FVec Ideal S3x10240 .f32) (x2 : FVec Ideal S256x1 .f32)
    (x3 : FVec Ideal S1x10240 .f32) (x4 : FVec Ideal S80x384 .f32) (x5 : FVec Ideal S3x3 .f32) :
    out0_7 (F := Ideal) x0 x1 x2 x3 x4 x5 = blockNormals x0 x1 x2 x3 x4 x5 notFinite := by
  rw [MatchFin.out7_eq, store7, load0, load1, load2, load3, load4, load5]

section Arrays

variable (hc : ∀ i a, cloud m c i a ≠ ⊥ ∧ cloud m c i a ≠ ⊤)

include hc

/-- The array of picked lanes after the kernel: at a point, its nearest points. -/
theorem array6 (i : Fin 10240) (k : Fin 9) (h : i.val < 10000) :
    (dats m 0 c).arrAt 6 cfg0.N (ix2 i k) = BitVec.ofNat 32 (near (cloud m c) ⟨i.val, h⟩ k).val := by
  revert h
  refine (dats m 0 c).arrAt_forall_of_covers 6 (fun I v => ∀ h : (I 0).val < 10000,
    v = BitVec.ofNat 32 (near (cloud m c) ⟨(I 0).val, h⟩ (I 1)).val) (by decide +kernel) (fun t hf y => ?_) (ix2 i k)
  obtain ⟨r, l, rfl⟩ : ∃ (r : Fin 256) (l : Fin 9), y = ix2 r l := ⟨y 0, y 1, eq_ix2 y⟩
  blk_simp
  rw [after0_6, picked]
  intro h
  have h' : t.val * 256 + r.val < 10000 := by
    have e : win0_6.index t 0 = t.val := congrFun (index6 t) 0
    rw [← e]; exact h
  refine (nine_row (describes m c t r h') hc l).trans ?_
  refine congrArg (BitVec.ofNat 32) (congrArg Fin.val (congrArg₂ (near (cloud m c)) (Fin.ext ?_) (Fin.ext ?_)))
  · exact congrArg (fun n => n * 256 + r.val) (congrFun (index6 t) 0).symm
  · exact congrArg Fin.val (congrFun (show (win0_6.blk t).view.emb (ix2 r l) = ix2 ⟨t.val * 256 + r.val, by have := point_lt t; omega⟩ l by blk_ext [index6]) 1).symm

/-- The array of normals after the kernel: at a point, its mean normal. -/
theorem array7 (i : Fin 10240) (a : Fin 3) (h : i.val < 10000) :
    (dats m 0 c).arrAt 7 cfg0.N (ix2 i a) = pointNormal (cloud m c) bad ⟨i.val, h⟩ a := by
  revert h
  refine (dats m 0 c).arrAt_forall_of_covers 7 (fun I v => ∀ h : (I 0).val < 10000,
    v = pointNormal (cloud m c) bad ⟨(I 0).val, h⟩ (I 1)) (by decide +kernel) (fun t hf y => ?_) (ix2 i a)
  obtain ⟨r, l, rfl⟩ : ∃ (r : Fin 256) (l : Fin 3), y = ix2 r l := ⟨y 0, y 1, eq_ix2 y⟩
  blk_simp
  rw [after0_7, normals]
  intro h
  have h' : t.val * 256 + r.val < 10000 := by
    have e : win0_7.index t 0 = t.val := congrFun (index7 t) 0
    rw [← e]; exact h
  refine (block_row (describes m c t r h') hc notFinite bad notFinite_row l).trans ?_
  refine congrArg₂ (pointNormal (cloud m c) bad) (Fin.ext ?_) (Fin.ext ?_)
  · exact congrArg (fun n => n * 256 + r.val) (congrFun (index7 t) 0).symm
  · exact congrArg Fin.val (congrFun (show (win0_7.blk t).view.emb (ix2 r l) = ix2 ⟨t.val * 256 + r.val, by have := point_lt t; omega⟩ l by blk_ext [index7]) 1).symm

end Arrays

/-- The windows' arrays are distinct. -/
theorem arrays_distinct : Function.Injective (Pipeline.arrRef spec0) := by decide

/-- The first result is cut from the array of picked lanes. -/
theorem cut0 : Pipeline.afterTail₀ cfgs (dats m) 0 (V0 m) [hostOps1] c main_v0_0
    = extractStridedSlice S10000x9 ![0, 0] ((dats m 0 c).arrAt 6 cfg0.N) slices_S10240x9_S10000x9_0_0 := by
  unfold Pipeline.afterTail₀
  show StableHlo.after hostOps1 _ (Proc.devRef .tc main_v0_0) = _
  after_results
  exact congrArg (fun A => extractStridedSlice S10000x9 ![0, 0] A slices_S10240x9_S10000x9_0_0)
    (Pipeline.withArrays_arr spec0 arrays_distinct c (V0 m c) (fun w => (dats m 0 c).arrAt w cfg0.N) 6)

/-- The second result is cut from the array of normals. -/
theorem cut1 : Pipeline.afterTail₀ cfgs (dats m) 0 (V0 m) [hostOps1] c main_v0_1
    = extractStridedSlice S10000x3 ![0, 0] ((dats m 0 c).arrAt 7 cfg0.N) slices_S10240x3_S10000x3_0_0 := by
  unfold Pipeline.afterTail₀
  show StableHlo.after hostOps1 _ (Proc.devRef .tc main_v0_1) = _
  after_results
  exact congrArg (fun A => extractStridedSlice S10000x3 ![0, 0] A slices_S10240x3_S10000x3_0_0)
    (Pipeline.withArrays_arr spec0 arrays_distinct c (V0 m c) (fun w => (dats m 0 c).arrAt w cfg0.N) 7)

/-- A cut of the first rows, at coordinates. -/
theorem cut_at {α : Type} (A : S10240x9.Idx → α) (i : Fin 10000) (k : Fin 9) :
    extractStridedSlice S10000x9 ![0, 0] A slices_S10240x9_S10000x9_0_0 (ix2 i k) = A (ix2 ⟨i.val, by omega⟩ k) := by
  pointwise

/-- The same for three columns. -/
theorem cut_at' {α : Type} (A : S10240x3.Idx → α) (i : Fin 10000) (k : Fin 3) :
    extractStridedSlice S10000x3 ![0, 0] A slices_S10240x3_S10000x3_0_0 (ix2 i k) = A (ix2 ⟨i.val, by omega⟩ k) := by
  pointwise

/-- The run of the kernel: where the cloud is finite, the first result holds the nearest points and the second the mean
    normals; the arguments stand. -/
theorem run (ρ : Dev nD → PrngReg) : θ_run defs (onTc (main (F := Ideal))) (s₀ m ρ) (fun r => ∀ c : Dev nD,
    ((∀ i a, cloud m c i a ≠ ⊥ ∧ cloud m c i a ≠ ⊤) →
      r.2.mem ((c : Thread nD τ).loc main_v0_0) = (fun I : S10000x9.Idx => BitVec.ofNat 32 (near (cloud m c) (I 0) (I 1)).val)
      ∧ r.2.mem ((c : Thread nD τ).loc main_v0_1) = (fun I : S10000x3.Idx => pointNormal (cloud m c) bad (I 0) (I 1)))
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ⟨fun hc => ⟨?_, ?_⟩, ?_, ?_⟩) (run_main m ρ)
  · refine ((h c).2 main_v0_0 (Pipeline.mem_restRefs_of main_v0_0 (by decide) (by decide))).trans ((cut0 m c).trans ?_)
    funext I
    obtain ⟨i, k, rfl⟩ : ∃ (i : Fin 10000) (k : Fin 9), I = ix2 i k := ⟨I 0, I 1, eq_ix2 I⟩
    exact (cut_at _ i k).trans (array6 m c hc ⟨i.val, by omega⟩ k i.isLt)
  · refine ((h c).2 main_v0_1 (Pipeline.mem_restRefs_of main_v0_1 (by decide) (by decide))).trans ((cut1 m c).trans ?_)
    funext I
    obtain ⟨i, k, rfl⟩ : ∃ (i : Fin 10000) (k : Fin 3), I = ix2 i k := ⟨I 0, I 1, eq_ix2 I⟩
    exact (cut_at' _ i k).trans (array7 m c hc ⟨i.val, by omega⟩ k i.isLt)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Umbrella.RunFin

end
-- ==== Proof.MatchNan.lean ====
/- The named values of the generated body of KernelIdeal, matched with the vector functions of `Vec`. -/
module

public import proofs.«01_k».proof.Proof.Gen.KernelIdeal.Frame
public import proofs.«01_k».proof.Proof.Vec

@[expose] public section

set_option maxRecDepth 16384

noncomputable section

namespace Umbrella.MatchNan

open Idealize.ShloMosaic Cert.KernelIdeal Cert.KernelIdeal.Gen

variable {F : FTy → Type} [FloatOps F]
variable (x0 : Vec F S256x3 .f32) (x1 : Vec F S3x10240 .f32) (x2 : Vec F S256x1 .f32) (x3 : Vec F S1x10240 .f32)
  (x4 : Vec F S80x384 .f32) (x5 : Vec F S3x3 .f32)

/-- The distances left after 1 round. -/
theorem left1 : k0_pay166 x0 x1 x2 x3 x4 x5 = stage (dist (View.ld x0 r0_0) (View.ld x1 r0_1) (View.ld x2 r0_2) (View.ld x3 r0_3)) 1 := rfl

/-- The distances left after 2 rounds. -/
theorem left2 : k0_pay171 x0 x1 x2 x3 x4 x5 = stage (dist (View.ld x0 r0_0) (View.ld x1 r0_1) (View.ld x2 r0_2) (View.ld x3 r0_3)) 2 := by
  have h : k0_pay171 x0 x1 x2 x3 x4 x5 = drop (k0_pay166 x0 x1 x2 x3 x4 x5) := rfl
  rw [h, left1]; rfl

/-- The distances left after 3 rounds. -/
theorem left3 : k0_pay173 x0 x1 x2 x3 x4 x5 = stage (dist (View.ld x0 r0_0) (View.ld x1 r0_1) (View.ld x2 r0_2) (View.ld x3 r0_3)) 3 := by
  have h : k0_pay173 x0 x1 x2 x3 x4 x5 = drop (k0_pay171 x0 x1 x2 x3 x4 x5) := rfl
  rw [h, left2]; rfl

/-- The distances left after 4 rounds. -/
theorem left4 : k0_pay179 x0 x1 x2 x3 x4 x5 = stage (dist (View.ld x0 r0_0) (View.ld x1 r0_1) (View.ld x2 r0_2) (View.ld x3 r0_3)) 4 := by
  have h : k0_pay179 x0 x1 x2 x3 x4 x5 = drop (k0_pay173 x0 x1 x2 x3 x4 x5) := rfl
  rw [h, left3]; rfl

/-- The distances left after 5 rounds. -/
theorem left5 : k0_pay186 x0 x1 x2 x3 x4 x5 = stage (dist (View.ld x0 r0_0) (View.ld x1 r0_1) (View.ld x2 r0_2) (View.ld x3 r0_3)) 5 := by
  have h : k0_pay186 x0 x1 x2 x3 x4 x5 = drop (k0_pay179 x0 x1 x2 x3 x4 x5) := rfl
  rw [h, left4]; rfl

/-- The distances left after 6 rounds. -/
theorem left6 : k0_pay191 x0 x1 x2 x3 x4 x5 = stage (dist (View.ld x0 r0_0) (View.ld x1 r0_1) (View.ld x2 r0_2) (View.ld x3 r0_3)) 6 := by
  have h : k0_pay191 x0 x1 x2 x3 x4 x5 = drop (k0_pay186 x0 x1 x2 x3 x4 x5) := rfl
  rw [h, left5]; rfl

/-- The distances left after 7 rounds. -/
theorem left7 : k0_pay196 x0 x1 x2 x3 x4 x5 = stage (dist (View.ld x0 r0_0) (View.ld x1 r0_1) (View.ld x2 r0_2) (View.ld x3 r0_3)) 7 := by
  have h : k0_pay196 x0 x1 x2 x3 x4 x5 = drop (k0_pay191 x0 x1 x2 x3 x4 x5) := rfl
  rw [h, left6]; rfl

/-- The distances left after 8 rounds. -/
theorem left8 : k0_pay198 x0 x1 x2 x3 x4 x5 = stage (dist (View.ld x0 r0_0) (View.ld x1 r0_1) (View.ld x2 r0_2) (View.ld x3 r0_3)) 8 := by
  have h : k0_pay198 x0 x1 x2 x3 x4 x5 = drop (k0_pay196 x0 x1 x2 x3 x4 x5) := rfl
  rw [h, left7]; rfl

/-- The azimuths of round 0. -/
theorem angle0 : k0_pay168 x0 x1 x2 x3 x4 x5 = angle (View.ld x5 r0_5) (relX (View.ld x0 r0_0) (View.ld x1 r0_1) (View.ld x2 r0_2) (View.ld x3 r0_3) (View.ld x4 r0_4) 0) (relY (View.ld x0 r0_0) (View.ld x1 r0_1) (View.ld x2 r0_2) (View.ld x3 r0_3) (View.ld x4 r0_4) 0) (relZ (View.ld x0 r0_0) (View.ld x1 r0_1) (View.ld x2 r0_2) (View.ld x3 r0_3) (View.ld x4 r0_4) 0) := by
  unfold relX relY relZ lanes; rfl

/-- The azimuths of round 1. -/
theorem angle1 : k0_pay172 x0 x1 x2 x3 x4 x5 = angle (View.ld x5 r0_5) (relX (View.ld x0 r0_0) (View.ld x1 r0_1) (View.ld x2 r0_2) (View.ld x3 r0_3) (View.ld x4 r0_4) 1) (relY (View.ld x0 r0_0) (View.ld x1 r0_1) (View.ld x2 r0_2) (View.ld x3 r0_3) (View.ld x4 r0_4) 1) (relZ (View.ld x0 r0_0) (View.ld x1 r0_1) (View.ld x2 r0_2) (View.ld x3 r0_3) (View.ld x4 r0_4) 1) := by
  unfold relX relY relZ lanes; rw [← left1]; rfl

/-- The azimuths of round 2. -/
theorem angle2 : k0_pay178 x0 x1 x2 x3 x4 x5 = angle (View.ld x5 r0_5) (relX (View.ld x0 r0_0) (View.ld x1 r0_1) (View.ld x2 r0_2) (View.ld x3 r0_3) (View.ld x4 r0_4) 2) (relY (View.ld x0 r0_0) (View.ld x1 r0_1) (View.ld x2 r0_2) (View.ld x3 r0_3) (View.ld x4 r0_4) 2) (relZ (View.ld x0 r0_0) (View.ld x1 r0_1) (View.ld x2 r0_2) (View.ld x3 r0_3) (View.ld x4 r0_4) 2) := by
  unfold relX relY relZ lanes; rw [← left2]; rfl

/-- The azimuths of round 3. -/
theorem angle3 : k0_pay185 x0 x1 x2 x3 x4 x5 = angle (View.ld x5 r0_5) (relX (View.ld x0 r0_0) (View.ld x1 r0_1) (View.ld x2 r0_2) (View.ld x3 r0_3) (View.ld x4 r0_4) 3) (relY (View.ld x0 r0_0) (View.ld x1 r0_1) (View.ld x2 r0_2) (View.ld x3 r0_3) (View.ld x4 r0_4) 3) (relZ (View.ld x0 r0_0) (View.ld x1 r0_1) (View.ld x2 r0_2) (View.ld x3 r0_3) (View.ld x4 r0_4) 3) := by
  unfold relX relY relZ lanes; rw [← left3]; rfl

/-- The azimuths of round 4. -/
theorem angle4 : k0_pay189 x0 x1 x2 x3 x4 x5 = angle (View.ld x5 r0_5) (relX (View.ld x0 r0_0) (View.ld x1 r0_1) (View.ld x2 r0_2) (View.ld x3 r0_3) (View.ld x4 r0_4) 4) (relY (View.ld x0 r0_0) (View.ld x1 r0_1) (View.ld x2 r0_2) (View.ld x3 r0_3) (View.ld x4 r0_4) 4) (relZ (View.ld x0 r0_0) (View.ld x1 r0_1) (View.ld x2 r0_2) (View.ld x3 r0_3) (View.ld x4 r0_4) 4) := by
  unfold relX relY relZ lanes; rw [← left4]; rfl

/-- The azimuths of round 5. -/
theorem angle5 : k0_pay193 x0 x1 x2 x3 x4 x5 = angle (View.ld x5 r0_5) (relX (View.ld x0 r0_0) (View.ld x1 r0_1) (View.ld x2 r0_2) (View.ld x3 r0_3) (View.ld x4 r0_4) 5) (relY (View.ld x0 r0_0) (View.ld x1 r0_1) (View.ld x2 r0_2) (View.ld x3 r0_3) (View.ld x4 r0_4) 5) (relZ (View.ld x0 r0_0) (View.ld x1 r0_1) (View.ld x2 r0_2) (View.ld x3 r0_3) (View.ld x4 r0_4) 5) := by
  unfold relX relY relZ lanes; rw [← left5]; rfl

/-- The azimuths of round 6. -/
theorem angle6 : k0_pay197 x0 x1 x2 x3 x4 x5 = angle (View.ld x5 r0_5) (relX (View.ld x0 r0_0) (View.ld x1 r0_1) (View.ld x2 r0_2) (View.ld x3 r0_3) (View.ld x4 r0_4) 6) (relY (View.ld x0 r0_0) (View.ld x1 r0_1) (View.ld x2 r0_2) (View.ld x3 r0_3) (View.ld x4 r0_4) 6) (relZ (View.ld x0 r0_0) (View.ld x1 r0_1) (View.ld x2 r0_2) (View.ld x3 r0_3) (View.ld x4 r0_4) 6) := by
  unfold relX relY relZ lanes; rw [← left6]; rfl

/-- The azimuths of round 7. -/
theorem angle7 : k0_pay204 x0 x1 x2 x3 x4 x5 = angle (View.ld x5 r0_5) (relX (View.ld x0 r0_0) (View.ld x1 r0_1) (View.ld x2 r0_2) (View.ld x3 r0_3) (View.ld x4 r0_4) 7) (relY (View.ld x0 r0_0) (View.ld x1 r0_1) (View.ld x2 r0_2) (View.ld x3 r0_3) (View.ld x4 r0_4) 7) (relZ (View.ld x0 r0_0) (View.ld x1 r0_1) (View.ld x2 r0_2) (View.ld x3 r0_3) (View.ld x4 r0_4) 7) := by
  unfold relX relY relZ lanes; rw [← left7]; rfl

/-- The nine azimuths side by side. -/
theorem angles_eq : k0_pay210 x0 x1 x2 x3 x4 x5 = angles (View.ld x0 r0_0) (View.ld x1 r0_1) (View.ld x2 r0_2) (View.ld x3 r0_3) (View.ld x4 r0_4) (View.ld x5 r0_5) := by
  unfold angles nineF; dsimp only
  rw [← angle0, ← angle1, ← angle2, ← angle3, ← angle4, ← angle5, ← angle6, ← angle7]
  unfold relX relY relZ lanes; rw [← left8]; rfl

/-- The rank of neighbour 0. -/
theorem rank0 : k0_pay211 x0 x1 x2 x3 x4 x5 = rank (angles (View.ld x0 r0_0) (View.ld x1 r0_1) (View.ld x2 r0_2) (View.ld x3 r0_3) (View.ld x4 r0_4) (View.ld x5 r0_5)) 0 := by
  rw [← angles_eq]; rfl

/-- The rank of neighbour 1. -/
theorem rank1 : k0_pay212 x0 x1 x2 x3 x4 x5 = rank (angles (View.ld x0 r0_0) (View.ld x1 r0_1) (View.ld x2 r0_2) (View.ld x3 r0_3) (View.ld x4 r0_4) (View.ld x5 r0_5)) 1 := by
  rw [← angles_eq]; rfl

/-- The rank of neighbour 2. -/
theorem rank2 : k0_pay213 x0 x1 x2 x3 x4 x5 = rank (angles (View.ld x0 r0_0) (View.ld x1 r0_1) (View.ld x2 r0_2) (View.ld x3 r0_3) (View.ld x4 r0_4) (View.ld x5 r0_5)) 2 := by
  rw [← angles_eq]; rfl

/-- The rank of neighbour 3. -/
theorem rank3 : k0_pay214 x0 x1 x2 x3 x4 x5 = rank (angles (View.ld x0 r0_0) (View.ld x1 r0_1) (View.ld x2 r0_2) (View.ld x3 r0_3) (View.ld x4 r0_4) (View.ld x5 r0_5)) 3 := by
  rw [← angles_eq]; rfl

/-- The rank of neighbour 4. -/
theorem rank4 : k0_pay215 x0 x1 x2 x3 x4 x5 = rank (angles (View.ld x0 r0_0) (View.ld x1 r0_1) (View.ld x2 r0_2) (View.ld x3 r0_3) (View.ld x4 r0_4) (View.ld x5 r0_5)) 4 := by
  rw [← angles_eq]; rfl

/-- The rank of neighbour 5. -/
theorem rank5 : k0_pay216 x0 x1 x2 x3 x4 x5 = rank (angles (View.ld x0 r0_0) (View.ld x1 r0_1) (View.ld x2 r0_2) (View.ld x3 r0_3) (View.ld x4 r0_4) (View.ld x5 r0_5)) 5 := by
  rw [← angles_eq]; rfl

/-- The rank of neighbour 6. -/
theorem rank6 : k0_pay217 x0 x1 x2 x3 x4 x5 = rank (angles (View.ld x0 r0_0) (View.ld x1 r0_1) (View.ld x2 r0_2) (View.ld x3 r0_3) (View.ld x4 r0_4) (View.ld x5 r0_5)) 6 := by
  rw [← angles_eq]; rfl

/-- The rank of neighbour 7. -/
theorem rank7 : k0_pay218 x0 x1 x2 x3 x4 x5 = rank (angles (View.ld x0 r0_0) (View.ld x1 r0_1) (View.ld x2 r0_2) (View.ld x3 r0_3) (View.ld x4 r0_4) (View.ld x5 r0_5)) 7 := by
  rw [← angles_eq]; rfl

/-- The rank of neighbour 8. -/
theorem rank8 : k0_pay219 x0 x1 x2 x3 x4 x5 = rank (angles (View.ld x0 r0_0) (View.ld x1 r0_1) (View.ld x2 r0_2) (View.ld x3 r0_3) (View.ld x4 r0_4) (View.ld x5 r0_5)) 8 := by
  rw [← angles_eq]; rfl

/-- The sorted relative points, coordinate X. -/
theorem sortedX : k0_pay220 x0 x1 x2 x3 x4 x5 = spread (rank (angles (View.ld x0 r0_0) (View.ld x1 r0_1) (View.ld x2 r0_2) (View.ld x3 r0_3) (View.ld x4 r0_4) (View.ld x5 r0_5))) (relX (View.ld x0 r0_0) (View.ld x1 r0_1) (View.ld x2 r0_2) (View.ld x3 r0_3) (View.ld x4 r0_4)) := by
  unfold spread; rw [← rank0, ← rank1, ← rank2, ← rank3, ← rank4, ← rank5, ← rank6, ← rank7, ← rank8]
  unfold relX lanes; rw [← left1, ← left2, ← left3, ← left4, ← left5, ← left6, ← left7, ← left8]; rfl

/-- The sorted relative points, coordinate Y. -/
theorem sortedY : k0_pay221 x0 x1 x2 x3 x4 x5 = spread (rank (angles (View.ld x0 r0_0) (View.ld x1 r0_1) (View.ld x2 r0_2) (View.ld x3 r0_3) (View.ld x4 r0_4) (View.ld x5 r0_5))) (relY (View.ld x0 r0_0) (View.ld x1 r0_1) (View.ld x2 r0_2) (View.ld x3 r0_3) (View.ld x4 r0_4)) := by
  unfold spread; rw [← rank0, ← rank1, ← rank2, ← rank3, ← rank4, ← rank5, ← rank6, ← rank7, ← rank8]
  unfold relY lanes; rw [← left1, ← left2, ← left3, ← left4, ← left5, ← left6, ← left7, ← left8]; rfl

/-- The sorted relative points, coordinate Z. -/
theorem sortedZ : k0_pay136 (k0_pay162 x0 x1 x2 x3 x4 x5) (k0_pay203 x0 x1 x2 x3 x4 x5) (k0_pay209 x0 x1 x2 x3 x4 x5) (k0_pay218 x0 x1 x2 x3 x4 x5) (k0_pay219 x0 x1 x2 x3 x4 x5) (k0_pay222 x0 x1 x2 x3 x4 x5) (k0_pay223 x0 x1 x2 x3 x4 x5) (k0_pay224 x0 x1 x2 x3 x4 x5) (k0_pay225 x0 x1 x2 x3 x4 x5) = spread (rank (angles (View.ld x0 r0_0) (View.ld x1 r0_1) (View.ld x2 r0_2) (View.ld x3 r0_3) (View.ld x4 r0_4) (View.ld x5 r0_5))) (relZ (View.ld x0 r0_0) (View.ld x1 r0_1) (View.ld x2 r0_2) (View.ld x3 r0_3) (View.ld x4 r0_4)) := by
  unfold spread; rw [← rank0, ← rank1, ← rank2, ← rank3, ← rank4, ← rank5, ← rank6, ← rank7, ← rank8]
  unfold relZ lanes; rw [← left1, ← left2, ← left3, ← left4, ← left5, ← left6, ← left7, ← left8]; rfl

/-- The picked lanes the block leaves. -/
theorem out6_eq : out0_6 x0 x1 x2 x3 x4 x5 = View.canon [⟨r0_6, nineI (lanes (View.ld x0 r0_0) (View.ld x1 r0_1) (View.ld x2 r0_2) (View.ld x3 r0_3))⟩] := by
  unfold nineI lanes; rw [← left1, ← left2, ← left3, ← left4, ← left5, ← left6, ← left7, ← left8]; rfl

/-- The normals the block leaves. -/
theorem out7_eq : out0_7 x0 x1 x2 x3 x4 x5 = View.canon [⟨r0_0, blockNormals (View.ld x0 r0_0) (View.ld x1 r0_1) (View.ld x2 r0_2) (View.ld x3 r0_3) (View.ld x4 r0_4) (View.ld x5 r0_5) notNumber⟩] := by
  unfold blockNormals; rw [← sortedX, ← sortedY, ← sortedZ]; rfl

end Umbrella.MatchNan
-- ==== Proof.RunNan.lean ====
/- The run of the kernel that tests for being a number: its two results are, at every point of the cloud, the nine nearest
   points and the mean normal. -/
module

public import proofs.«01_k».proof.Proof.Block
public import proofs.«01_k».proof.Proof.Entry
public import proofs.«01_k».proof.Proof.MatchNan
public import proofs.«01_k».proof.Proof.Gen.KernelIdeal.Frame
public import Idealize.ShloMosaic.Lib.Pipeline.ValueKit

@[expose] public section

set_option maxRecDepth 16384

noncomputable section

namespace Umbrella.RunNan

open Idealize.ShloMosaic Idealize.ShloMosaic.TcCoe Idealize.SL.Sem Cert.KernelIdeal Cert.KernelIdeal.Gen

variable (m : (ℓ : Loc nD τ sig) → Buf (Elt Ideal) ℓ) (c : Dev nD)

/-- The cloud as the argument holds it. -/
abbrev arg : FVec Ideal S10000x3 .f32 := m ((c : Thread nD τ).loc main_arg0)

/-- The cloud by points and coordinates. -/
def cloud (i : Fin 10000) (a : Fin 3) : EReal := arg m c (ix2 i a)

/-! ## The arrays at the kernel's entry -/

/-- The queries are the padded cloud. -/
theorem V_query : V m c main_call0_v0 = padded (F := Ideal) (arg m c) := by
  show StableHlo.after hostOps0 _ (Proc.devRef .tc main_call0_v0) = _
  after_results
  rfl

/-- The lanes are the padded cloud, coordinates first. -/
theorem V_lanes : V m c main_call0_v8 = lanesOf (F := Ideal) (arg m c) := by
  show StableHlo.after hostOps0 _ (Proc.devRef .tc main_call0_v8) = _
  after_results
  rfl

/-- The queries' sums of squares. -/
theorem V_querySquares : V m c main_call0_v9 = querySquares (F := Ideal) (arg m c) := by
  show StableHlo.after hostOps0 _ (Proc.devRef .tc main_call0_v9) = _
  after_results
  rfl

/-- The points' sums of squares. -/
theorem V_pointSquares : V m c main_call0_v10 = pointSquares (F := Ideal) (arg m c) := by
  show StableHlo.after hostOps0 _ (Proc.devRef .tc main_call0_v10) = _
  after_results
  rfl

/-- The chunks. -/
theorem V_chunks : V m c main_call0_v7 = chunks (F := Ideal) (arg m c) := by
  show StableHlo.after hostOps0 _ (Proc.devRef .tc main_call0_v7) = _
  after_results
  rfl

/-- The rotation. -/
theorem V_rotation : V m c main_call0_cst = rotation (F := Ideal) := by
  show StableHlo.after hostOps0 _ (Proc.devRef .tc main_call0_cst) = _
  after_results
  rfl

/-! ## The blocks -/

/-- Where the windows stand at a grid point: those of a block of points at that block, the others at the whole array. -/
theorem index0 : ∀ t : Fin cfg0.N, win0_0.index t = ![t.val, 0] := by decide +kernel
theorem index1 : ∀ t : Fin cfg0.N, win0_1.index t = ![0, 0] := by decide +kernel
theorem index2 : ∀ t : Fin cfg0.N, win0_2.index t = ![t.val, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![t.val, 0] := by decide +kernel
theorem index7 : ∀ t : Fin cfg0.N, win0_7.index t = ![t.val, 0] := by decide +kernel

/-- There are forty grid points. -/
theorem point_lt (t : Fin cfg0.N) : t.val < 40 := t.isLt

theorem block0 (t : Fin cfg0.N) (r : Fin 256) (a : Fin 3) : iblk m c 0 t (ix2 r a)
    = padded (arg m c) (ix2 ⟨t.val * 256 + r.val, by have := point_lt t; omega⟩ a) := by
  rw [← V_query]
  blk_simp [iblk]
  refine congrArg (V m c main_call0_v0) ?_
  blk_ext [index0]

theorem block1 (t : Fin cfg0.N) (a : Fin 3) (j : Fin 10240) : iblk m c 1 t (ix2 a j) = lanesOf (arg m c) (ix2 a j) := by
  rw [← V_lanes]
  blk_simp [iblk]
  refine congrArg (V m c main_call0_v8) ?_
  blk_ext [index1]

theorem block2 (t : Fin cfg0.N) (r : Fin 256) : iblk m c 2 t (ix2 r 0)
    = querySquares (arg m c) (ix2 ⟨t.val * 256 + r.val, by have := point_lt t; omega⟩ 0) := by
  rw [← V_querySquares]
  blk_simp [iblk]
  refine congrArg (V m c main_call0_v9) ?_
  blk_ext [index2]

theorem block3 (t : Fin cfg0.N) (j : Fin 10240) : iblk m c 3 t (ix2 0 j) = pointSquares (arg m c) (ix2 0 j) := by
  rw [← V_pointSquares]
  blk_simp [iblk]
  refine congrArg (V m c main_call0_v10) ?_
  blk_ext [index3]

theorem block4 (t : Fin cfg0.N) (k : Fin 80) (l : Fin 384) : iblk m c 4 t (ix2 k l) = chunks (arg m c) (ix2 k l) := by
  rw [← V_chunks]
  blk_simp [iblk]
  refine congrArg (V m c main_call0_v7) ?_
  blk_ext [index4]

theorem block5 (t : Fin cfg0.N) (b a : Fin 3) : iblk m c 5 t (ix2 b a) = rotation (F := Ideal) (ix2 b a) := by
  rw [← V_rotation m c]
  blk_simp [iblk]
  refine congrArg (V m c main_call0_cst) ?_
  blk_ext [index5]

/-- A row of a block that holds a point describes it. -/
theorem describes (t : Fin cfg0.N) (r : Fin 256) (h : t.val * 256 + r.val < 10000) :
    Describes (iblk m c 0 t) (iblk m c 1 t) (iblk m c 2 t) (iblk m c 3 t) (iblk m c 4 t) (iblk m c 5 t)
      (cloud m c) r ⟨t.val * 256 + r.val, h⟩ where
  query a := by rw [block0, padded_at]; exact dif_pos h
  point a j := by rw [block1, lanesOf_at, padded_at]; rfl
  querySq := by rw [block2, querySquares_at]; exact (dif_pos h).trans (squares_at _ _)
  pointSq j := by rw [block3, pointSquares_at]; simp only [squares_at]; rfl
  chunk0 p := by
    rw [block4, chunks_at, padded_at]
    refine (dif_pos (show p.val / 128 * 128 + p.val % 128 % 128 < 10000 by omega)).trans (congrArg (arg m c) ?_)
    exact congrArg₂ ix2 (Fin.ext (show p.val / 128 * 128 + p.val % 128 % 128 = p.val by omega))
      (Fin.ext (show p.val % 128 / 128 = 0 by omega))
  chunk1 p := by
    rw [block4, chunks_at, padded_at]
    refine (dif_pos (show p.val / 128 * 128 + (128 + p.val % 128) % 128 < 10000 by omega)).trans (congrArg (arg m c) ?_)
    exact congrArg₂ ix2 (Fin.ext (show p.val / 128 * 128 + (128 + p.val % 128) % 128 = p.val by omega))
      (Fin.ext (show (128 + p.val % 128) / 128 = 1 by omega))
  chunk2 p := by
    rw [block4, chunks_at, padded_at]
    refine (dif_pos (show p.val / 128 * 128 + (256 + p.val % 128) % 128 < 10000 by omega)).trans (congrArg (arg m c) ?_)
    exact congrArg₂ ix2 (Fin.ext (show p.val / 128 * 128 + (256 + p.val % 128) % 128 = p.val by omega))
      (Fin.ext (show (256 + p.val % 128) / 128 = 2 by omega))
  turn b a := by rw [block5, rotation_at]

/-- The test the kernel puts to a component. -/
def bad (_ : EReal) : Bool := false

/-- Every access of the kernel is to the whole of its block. -/
theorem load0 (x : Vec Ideal S256x3 .f32) : View.ld x r0_0 = x := View.ld_unit_zero (by funext a; fin_cases a <;> rfl) _ x
theorem load1 (x : Vec Ideal S3x10240 .f32) : View.ld x r0_1 = x := View.ld_unit_zero (by funext a; fin_cases a <;> rfl) _ x
theorem load2 (x : Vec Ideal S256x1 .f32) : View.ld x r0_2 = x := View.ld_unit_zero (by funext a; fin_cases a <;> rfl) _ x
theorem load3 (x : Vec Ideal S1x10240 .f32) : View.ld x r0_3 = x := View.ld_unit_zero (by funext a; fin_cases a <;> rfl) _ x
theorem load4 (x : Vec Ideal S80x384 .f32) : View.ld x r0_4 = x := View.ld_unit_zero (by funext a; fin_cases a <;> rfl) _ x
theorem load5 (x : Vec Ideal S3x3 .f32) : View.ld x r0_5 = x := View.ld_unit_zero (by funext a; fin_cases a <;> rfl) _ x
theorem store6 (x : Vec Ideal S256x9 .i32) : View.canon [⟨r0_6, x⟩] = x := View.canon_unit_zero (by funext a; fin_cases a <;> rfl) _ x
theorem store7 (x : Vec Ideal S256x3 .f32) : View.canon [⟨r0_0, x⟩] = x := View.canon_unit_zero (by funext a; fin_cases a <;> rfl) _ x

/-- The picked lanes a block leaves, whole. -/
theorem picked (x0 : FVec Ideal S256x3 .f32) (x1 : FVec Ideal S3x10240 .f32) (x2 : FVec Ideal S256x1 .f32)
    (x3 : FVec Ideal S1x10240 .f32) (x4 : FVec Ideal S80x384 .f32) (x5 : FVec Ideal S3x3 .f32) :
    out0_6 (F := Ideal) x0 x1 x2 x3 x4 x5 = nineI (lanes x0 x1 x2 x3) := by
  rw [MatchNan.out6_eq, store6, load0, load1, load2, load3]

/-- The normals a block leaves, whole. -/
theorem normals (x0 : FVec Ideal S256x3 .f32) (x1 : FVec Ideal S3x10240 .f32) (x2 : FVec Ideal S256x1 .f32)
    (x3 : FVec Ideal S1x10240 .f32) (x4 : FVec Ideal S80x384 .f32) (x5 : FVec Ideal S3x3 .f32) :
    out0_7 (F := Ideal) x0 x1 x2 x3 x4 x5 = blockNormals x0 x1 x2 x3 x4 x5 notNumber := by
  rw [MatchNan.out7_eq, store7, load0, load1, load2, load3, load4, load5]

section Arrays

variable (hc : ∀ i a, cloud m c i a ≠ ⊥ ∧ cloud m c i a ≠ ⊤)

include hc

/-- The array of picked lanes after the kernel: at a point, its nearest points. -/
theorem array6 (i : Fin 10240) (k : Fin 9) (h : i.val < 10000) :
    (dats m 0 c).arrAt 6 cfg0.N (ix2 i k) = BitVec.ofNat 32 (near (cloud m c) ⟨i.val, h⟩ k).val := by
  revert h
  refine (dats m 0 c).arrAt_forall_of_covers 6 (fun I v => ∀ h : (I 0).val < 10000,
    v = BitVec.ofNat 32 (near (cloud m c) ⟨(I 0).val, h⟩ (I 1)).val) (by decide +kernel) (fun t hf y => ?_) (ix2 i k)
  obtain ⟨r, l, rfl⟩ : ∃ (r : Fin 256) (l : Fin 9), y = ix2 r l := ⟨y 0, y 1, eq_ix2 y⟩
  blk_simp
  rw [after0_6, picked]
  intro h
  have h' : t.val * 256 + r.val < 10000 := by
    have e : win0_6.index t 0 = t.val := congrFun (index6 t) 0
    rw [← e]; exact h
  refine (nine_row (describes m c t r h') hc l).trans ?_
  refine congrArg (BitVec.ofNat 32) (congrArg Fin.val (congrArg₂ (near (cloud m c)) (Fin.ext ?_) (Fin.ext ?_)))
  · exact congrArg (fun n => n * 256 + r.val) (congrFun (index6 t) 0).symm
  · exact congrArg Fin.val (congrFun (show (win0_6.blk t).view.emb (ix2 r l) = ix2 ⟨t.val * 256 + r.val, by have := point_lt t; omega⟩ l by blk_ext [index6]) 1).symm

/-- The array of normals after the kernel: at a point, its mean normal. -/
theorem array7 (i : Fin 10240) (a : Fin 3) (h : i.val < 10000) :
    (dats m 0 c).arrAt 7 cfg0.N (ix2 i a) = pointNormal (cloud m c) bad ⟨i.val, h⟩ a := by
  revert h
  refine (dats m 0 c).arrAt_forall_of_covers 7 (fun I v => ∀ h : (I 0).val < 10000,
    v = pointNormal (cloud m c) bad ⟨(I 0).val, h⟩ (I 1)) (by decide +kernel) (fun t hf y => ?_) (ix2 i a)
  obtain ⟨r, l, rfl⟩ : ∃ (r : Fin 256) (l : Fin 3), y = ix2 r l := ⟨y 0, y 1, eq_ix2 y⟩
  blk_simp
  rw [after0_7, normals]
  intro h
  have h' : t.val * 256 + r.val < 10000 := by
    have e : win0_7.index t 0 = t.val := congrFun (index7 t) 0
    rw [← e]; exact h
  refine (block_row (describes m c t r h') hc notNumber bad notNumber_row l).trans ?_
  refine congrArg₂ (pointNormal (cloud m c) bad) (Fin.ext ?_) (Fin.ext ?_)
  · exact congrArg (fun n => n * 256 + r.val) (congrFun (index7 t) 0).symm
  · exact congrArg Fin.val (congrFun (show (win0_7.blk t).view.emb (ix2 r l) = ix2 ⟨t.val * 256 + r.val, by have := point_lt t; omega⟩ l by blk_ext [index7]) 1).symm

end Arrays

/-- The windows' arrays are distinct. -/
theorem arrays_distinct : Function.Injective (Pipeline.arrRef spec0) := by decide

/-- The first result is cut from the array of picked lanes. -/
theorem cut0 : Pipeline.afterTail₀ cfgs (dats m) 0 (V0 m) [hostOps1] c main_v0_0
    = extractStridedSlice S10000x9 ![0, 0] ((dats m 0 c).arrAt 6 cfg0.N) slices_S10240x9_S10000x9_0_0 := by
  unfold Pipeline.afterTail₀
  show StableHlo.after hostOps1 _ (Proc.devRef .tc main_v0_0) = _
  after_results
  exact congrArg (fun A => extractStridedSlice S10000x9 ![0, 0] A slices_S10240x9_S10000x9_0_0)
    (Pipeline.withArrays_arr spec0 arrays_distinct c (V0 m c) (fun w => (dats m 0 c).arrAt w cfg0.N) 6)

/-- The second result is cut from the array of normals. -/
theorem cut1 : Pipeline.afterTail₀ cfgs (dats m) 0 (V0 m) [hostOps1] c main_v0_1
    = extractStridedSlice S10000x3 ![0, 0] ((dats m 0 c).arrAt 7 cfg0.N) slices_S10240x3_S10000x3_0_0 := by
  unfold Pipeline.afterTail₀
  show StableHlo.after hostOps1 _ (Proc.devRef .tc main_v0_1) = _
  after_results
  exact congrArg (fun A => extractStridedSlice S10000x3 ![0, 0] A slices_S10240x3_S10000x3_0_0)
    (Pipeline.withArrays_arr spec0 arrays_distinct c (V0 m c) (fun w => (dats m 0 c).arrAt w cfg0.N) 7)

/-- A cut of the first rows, at coordinates. -/
theorem cut_at {α : Type} (A : S10240x9.Idx → α) (i : Fin 10000) (k : Fin 9) :
    extractStridedSlice S10000x9 ![0, 0] A slices_S10240x9_S10000x9_0_0 (ix2 i k) = A (ix2 ⟨i.val, by omega⟩ k) := by
  pointwise

/-- The same for three columns. -/
theorem cut_at' {α : Type} (A : S10240x3.Idx → α) (i : Fin 10000) (k : Fin 3) :
    extractStridedSlice S10000x3 ![0, 0] A slices_S10240x3_S10000x3_0_0 (ix2 i k) = A (ix2 ⟨i.val, by omega⟩ k) := by
  pointwise

/-- The run of the kernel: where the cloud is finite, the first result holds the nearest points and the second the mean
    normals; the arguments stand. -/
theorem run (ρ : Dev nD → PrngReg) : θ_run defs (onTc (main (F := Ideal))) (s₀ m ρ) (fun r => ∀ c : Dev nD,
    ((∀ i a, cloud m c i a ≠ ⊥ ∧ cloud m c i a ≠ ⊤) →
      r.2.mem ((c : Thread nD τ).loc main_v0_0) = (fun I : S10000x9.Idx => BitVec.ofNat 32 (near (cloud m c) (I 0) (I 1)).val)
      ∧ r.2.mem ((c : Thread nD τ).loc main_v0_1) = (fun I : S10000x3.Idx => pointNormal (cloud m c) bad (I 0) (I 1)))
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ⟨fun hc => ⟨?_, ?_⟩, ?_, ?_⟩) (run_main m ρ)
  · refine ((h c).2 main_v0_0 (Pipeline.mem_restRefs_of main_v0_0 (by decide) (by decide))).trans ((cut0 m c).trans ?_)
    funext I
    obtain ⟨i, k, rfl⟩ : ∃ (i : Fin 10000) (k : Fin 9), I = ix2 i k := ⟨I 0, I 1, eq_ix2 I⟩
    exact (cut_at _ i k).trans (array6 m c hc ⟨i.val, by omega⟩ k i.isLt)
  · refine ((h c).2 main_v0_1 (Pipeline.mem_restRefs_of main_v0_1 (by decide) (by decide))).trans ((cut1 m c).trans ?_)
    funext I
    obtain ⟨i, k, rfl⟩ : ∃ (i : Fin 10000) (k : Fin 3), I = ix2 i k := ⟨I 0, I 1, eq_ix2 I⟩
    exact (cut_at' _ i k).trans (array7 m c hc ⟨i.val, by omega⟩ k i.isLt)
  · exact ((h c).2 main_arg0 (Pipeline.mem_restRefs_of main_arg0 (by decide) (by decide))).trans (W_main_arg0 m (dats m) c)
  · exact ((h c).2 main_arg1 (Pipeline.mem_restRefs_of main_arg1 (by decide) (by decide))).trans (W_main_arg1 m (dats m) c)

end Umbrella.RunNan

end
-- ==== Proof.Plain.lean ====
/- The plain program's stages, each a function of the stages before it. -/
module

public import proofs.«01_k».proof.Proof.Gen.ReferenceFinIdeal
public import Idealize.ShloMosaic.Lib.Pointwise

@[expose] public section

set_option maxRecDepth 8192

noncomputable section

namespace Umbrella.Plain

open Idealize.ShloMosaic Cert.ReferenceFinIdeal Cert.ReferenceFinIdeal.Facts₀ Cert.ReferenceFinIdeal.Facts

/-- The negated distances between all pairs of points. -/
def distances (X : FVec Ideal S10000x3 .f32) : FVec Ideal S10000x10000 .f32 :=
  Host.negf (Host.sqrt (maximumf (addf (subf (broadcastInDim S10000x10000 ![0, 1] bcast_S10000x1_S10000x10000_0_1
    (broadcastInDim S10000x1 ![0] bcast_S10000_S10000x1_0 (Host.reduceAdd (mulf X X) (constant S_ .f32 0x00000000#32)
    reducesTo_S10000x3_S10000_d1 h_S_))) (mulf (broadcastInDim S10000x10000 ![] bcast_S_S10000x10000 (constant S_ .f32
    0x40000000#32)) (Host.dotGeneral dot_S10000x3_S3x10000_S10000x10000_1_0_0_1_n_n none X (transpose S3x10000 [1, 0] X
    transposes_S10000x3_S3x10000_1_0)))) (broadcastInDim S10000x10000 ![0, 1] bcast_S1x10000_S10000x10000_0_1
    (broadcastInDim S1x10000 ![1] bcast_S10000_S1x10000_1 (Host.reduceAdd (mulf X X) (constant S_ .f32 0x00000000#32)
    reducesTo_S10000x3_S10000_d1 h_S_)))) (broadcastInDim S10000x10000 ![] bcast_S_S10000x10000 (constant S_ .f32
    0x00000000#32))))

/-- The positions of the nine greatest elements of a row. -/
def nearest (K : FVec Ideal S10000x10000 .f32) : IVec S10000x9 32 :=
  (Host.topK S10000x9 1 (FloatOps.cmpfTotal .gt) K sliceFits_S10000x10000_S10000x9).2

/-- The same in one line. -/
def flat (T : IVec S10000x9 32) : IVec S90000 32 :=
  shapeCast _ T shapeCasts_S10000x9_S90000

/-- The points to take; a negative one counts from the end. -/
def starts (T : IVec S90000 32) : IVec S90000x1 32 :=
  broadcastInDim S90000x1 ![0] bcast_S90000_S90000x1_0 (select (cmpi .slt T (broadcastInDim S90000 ![] bcast_S_S90000
    (constantI S_ 32 0#32))) (addi T (broadcastInDim S90000 ![] bcast_S_S90000 (constantI S_ 32 10000#32))) T)

/-- The neighbours taken from the cloud, relative to their points. -/
def relative (X : FVec Ideal S10000x3 .f32) (J : IVec S90000x1 32) : FVec Ideal S10000x9x3 .f32 :=
  subf (shapeCast _ (select (broadcastInDim S90000x3 ![0] bcast_S90000_S90000x3_0 (Host.reduce IntOp.andi (andi (cmpi
    .sge J (broadcastInDim S90000x1 ![] bcast_S_S90000x1 (constantI S_ 32 0#32))) (cmpi .sle J (broadcastInDim S90000x1
    ![0, 1] bcast_S1x1_S90000x1_0_1 (broadcastInDim S1x1 ![1] bcast_S1_S1x1_1 (constantI S1 32 9999#32))))) (constantI
    S_ 1 1#1) reducesTo_S90000x1_S90000_d1 h_S_)) (Host.gather gather_S10000x3_S90000x1_S90000x3_1_0_n_n_0_1_13 X J)
    (broadcastInDim S90000x3 ![] bcast_S_S90000x3 (constant S_ .f32 0x7FC00000#32))) shapeCasts_S90000x3_S10000x9x3)
    (broadcastInDim S10000x9x3 ![0, 1, 2] bcast_S10000x1x3_S10000x9x3_0_1_2 (broadcastInDim S10000x1x3 ![0, 2]
    bcast_S10000x3_S10000x1x3_0_2 X))

/-- The neighbours turned. -/
def turned (G : FVec Ideal S10000x9x3 .f32) : FVec Ideal S10000x9x3 .f32 :=
  Host.dotGeneral dot_S10000x9x3_S3x3_S10000x9x3_2_0_01_1_n_n none G ((fun i => FloatOps.ofBits .f32 (lit0
    (S3x3.rowMajor i))))

/-- The azimuths of the turned neighbours. -/
def azimuths (R : FVec Ideal S10000x9x3 .f32) : FVec Ideal S10000x9 .f32 :=
  addf (Host.divf (Host.atan2 (shapeCast _ (extractStridedSlice S10000x9x1 ![0, 0, 1] R
    slices_S10000x9x3_S10000x9x1_0_0_1) shapeCasts_S10000x9x1_S10000x9) (shapeCast _ (extractStridedSlice S10000x9x1
    ![0, 0, 0] R slices_S10000x9x3_S10000x9x1_0_0_0) shapeCasts_S10000x9x1_S10000x9)) (broadcastInDim S10000x9 ![]
    bcast_S_S10000x9 (constant S_ .f32 0x40C90FDB#32))) (broadcastInDim S10000x9 ![] bcast_S_S10000x9 (constant S_ .f32
    0x3F000000#32))

/-- The places of a row. -/
def places : IVec S10000x9 32 :=
  iotaInDim S10000x9 32 1

/-- The places in order of azimuth. -/
def order (A : FVec Ideal S10000x9 .f32) (I : IVec S10000x9 32) : IVec S10000x9x1 32 :=
  broadcastInDim S10000x9x1 ![0, 1] bcast_S10000x9_S10000x9x1_0_1 ((Host.sort2 S10000x9 1 comparator_f32_i32_d1 A
    I).2)

/-- The places to take; a negative one counts from the end. -/
def wrapped (O : IVec S10000x9x1 32) : IVec S10000x9x1 32 :=
  select (cmpi .slt O (broadcastInDim S10000x9x1 ![] bcast_S_S10000x9x1 (constantI S_ 32 0#32))) (addi O
    (broadcastInDim S10000x9x1 ![] bcast_S_S10000x9x1 (constantI S_ 32 9#32))) O

/-- The neighbours in order of azimuth. -/
def ordered (J : IVec S10000x9x1 32) (G : FVec Ideal S10000x9x3 .f32) : FVec Ideal S10000x9x1x3 .f32 :=
  broadcastInDim S10000x9x1x3 ![0, 1, 3] bcast_S10000x9x3_S10000x9x1x3_0_1_3 (select (broadcastInDim S10000x9x3 ![0,
    1] bcast_S10000x9_S10000x9x3_0_1 (Host.reduce IntOp.andi (andi (cmpi .sge J (broadcastInDim S10000x9x1 ![]
    bcast_S_S10000x9x1 (constantI S_ 32 0#32))) (cmpi .sle J (broadcastInDim S10000x9x1 ![0, 1, 2]
    bcast_S1x1x1_S10000x9x1_0_1_2 (broadcastInDim S1x1x1 ![2] bcast_S1_S1x1x1_2 (constantI S1 32 8#32))))) (constantI S_
    1 1#1) reducesTo_S10000x9x1_S10000x9_d2 h_S_)) (Host.gather gather_S10000x9x3_S10000x9x1_S10000x9x3_2_1_0_0_1_2_113
    G J) (broadcastInDim S10000x9x3 ![] bcast_S_S10000x9x3 (constant S_ .f32 0x7FC00000#32)))

/-- The triangles: the point, a neighbour and the next one around. -/
def triangles (S : FVec Ideal S10000x9x1x3 .f32) : FVec Ideal S10000x9x3x3 .f32 :=
  (concatenate S10000x9x3x3 2 [⟨S10000x9x1x3, ((broadcastInDim S10000x9x1x3 ![] bcast_S_S10000x9x1x3 (constant S_ .f32
    0x00000000#32)) : FVec Ideal S10000x9x1x3 .f32)⟩, ⟨S10000x9x1x3, (S : FVec Ideal S10000x9x1x3 .f32)⟩, ⟨S10000x9x1x3,
    ((concatenate S10000x9x1x3 1 [⟨S10000x8x1x3, (extractStridedSlice S10000x8x1x3 ![0, 1, 0, 0] S
    slices_S10000x9x1x3_S10000x8x1x3_0_1_0_0)⟩, ⟨S10000x1x1x3, (extractStridedSlice S10000x1x1x3 ![0, 0, 0, 0] S
    slices_S10000x9x1x3_S10000x1x1x3_0_0_0_0)⟩] concatenates_S10000x8x1x3_S10000x1x1x3_S10000x9x1x3_d1) : FVec Ideal
    S10000x9x1x3 .f32)⟩] concatenates_S10000x9x1x3_S10000x9x1x3_S10000x9x1x3_S10000x9x3x3_d2 : FVec Ideal S10000x9x3x3
    .f32)

/-- The first edge of each triangle. -/
def edgeOne (T : FVec Ideal S10000x9x3x3 .f32) : FVec Ideal S10000x9x3 .f32 :=
  subf (shapeCast _ (extractStridedSlice S10000x9x1x3 ![0, 0, 1, 0] T slices_S10000x9x3x3_S10000x9x1x3_0_0_1_0)
    shapeCasts_S10000x9x1x3_S10000x9x3) (shapeCast _ (extractStridedSlice S10000x9x1x3 ![0, 0, 0, 0] T
    slices_S10000x9x3x3_S10000x9x1x3_0_0_0_0) shapeCasts_S10000x9x1x3_S10000x9x3)

/-- The second edge of each triangle. -/
def edgeTwo (T : FVec Ideal S10000x9x3x3 .f32) : FVec Ideal S10000x9x3 .f32 :=
  subf (shapeCast _ (extractStridedSlice S10000x9x1x3 ![0, 0, 2, 0] T slices_S10000x9x3x3_S10000x9x1x3_0_0_2_0)
    shapeCasts_S10000x9x1x3_S10000x9x3) (shapeCast _ (extractStridedSlice S10000x9x1x3 ![0, 0, 0, 0] T
    slices_S10000x9x3x3_S10000x9x1x3_0_0_0_0) shapeCasts_S10000x9x1x3_S10000x9x3)

/-- The cross products of the edges. -/
def crossed (B : FVec Ideal S10000x9x3 .f32) (C : FVec Ideal S10000x9x3 .f32) : FVec Ideal S10000x9x3 .f32 :=
  (concatenate S10000x9x3 2 [⟨S10000x9x1, ((broadcastInDim S10000x9x1 ![0, 1] bcast_S10000x9_S10000x9x1_0_1 (subf
    (mulf (shapeCast _ (extractStridedSlice S10000x9x1 ![0, 0, 1] B slices_S10000x9x3_S10000x9x1_0_0_1)
    shapeCasts_S10000x9x1_S10000x9) (shapeCast _ (extractStridedSlice S10000x9x1 ![0, 0, 2] C
    slices_S10000x9x3_S10000x9x1_0_0_2) shapeCasts_S10000x9x1_S10000x9)) (mulf (shapeCast _ (extractStridedSlice
    S10000x9x1 ![0, 0, 2] B slices_S10000x9x3_S10000x9x1_0_0_2) shapeCasts_S10000x9x1_S10000x9) (shapeCast _
    (extractStridedSlice S10000x9x1 ![0, 0, 1] C slices_S10000x9x3_S10000x9x1_0_0_1) shapeCasts_S10000x9x1_S10000x9))))
    : FVec Ideal S10000x9x1 .f32)⟩, ⟨S10000x9x1, ((broadcastInDim S10000x9x1 ![0, 1] bcast_S10000x9_S10000x9x1_0_1 (subf
    (mulf (shapeCast _ (extractStridedSlice S10000x9x1 ![0, 0, 2] B slices_S10000x9x3_S10000x9x1_0_0_2)
    shapeCasts_S10000x9x1_S10000x9) (shapeCast _ (extractStridedSlice S10000x9x1 ![0, 0, 0] C
    slices_S10000x9x3_S10000x9x1_0_0_0) shapeCasts_S10000x9x1_S10000x9)) (mulf (shapeCast _ (extractStridedSlice
    S10000x9x1 ![0, 0, 0] B slices_S10000x9x3_S10000x9x1_0_0_0) shapeCasts_S10000x9x1_S10000x9) (shapeCast _
    (extractStridedSlice S10000x9x1 ![0, 0, 2] C slices_S10000x9x3_S10000x9x1_0_0_2) shapeCasts_S10000x9x1_S10000x9))))
    : FVec Ideal S10000x9x1 .f32)⟩, ⟨S10000x9x1, ((broadcastInDim S10000x9x1 ![0, 1] bcast_S10000x9_S10000x9x1_0_1 (subf
    (mulf (shapeCast _ (extractStridedSlice S10000x9x1 ![0, 0, 0] B slices_S10000x9x3_S10000x9x1_0_0_0)
    shapeCasts_S10000x9x1_S10000x9) (shapeCast _ (extractStridedSlice S10000x9x1 ![0, 0, 1] C
    slices_S10000x9x3_S10000x9x1_0_0_1) shapeCasts_S10000x9x1_S10000x9)) (mulf (shapeCast _ (extractStridedSlice
    S10000x9x1 ![0, 0, 1] B slices_S10000x9x3_S10000x9x1_0_0_1) shapeCasts_S10000x9x1_S10000x9) (shapeCast _
    (extractStridedSlice S10000x9x1 ![0, 0, 0] C slices_S10000x9x3_S10000x9x1_0_0_0) shapeCasts_S10000x9x1_S10000x9))))
    : FVec Ideal S10000x9x1 .f32)⟩] concatenates_S10000x9x1_S10000x9x1_S10000x9x1_S10000x9x3_d2 : FVec Ideal S10000x9x3
    .f32)

/-- The lengths of the cross products. -/
def lengths (C : FVec Ideal S10000x9x3 .f32) : FVec Ideal S10000x9x1 .f32 :=
  Host.sqrt (broadcastInDim S10000x9x1 ![0, 1] bcast_S10000x9_S10000x9x1_0_1 (Host.reduceAdd (mulf C C) (constant S_
    .f32 0x00000000#32) reducesTo_S10000x9x3_S10000x9_d2 h_S_))

/-- The triangles of no area. -/
def flatOnes (L : FVec Ideal S10000x9x1 .f32) : IVec S10000x9x1 1 :=
  cmpf .oeq L (broadcastInDim S10000x9x1 ![] bcast_S_S10000x9x1 (constant S_ .f32 0x00000000#32))

/-- The unit normals. -/
def units (Z : IVec S10000x9x1 1) (C : FVec Ideal S10000x9x3 .f32) (L : FVec Ideal S10000x9x1 .f32) : FVec Ideal S10000x9x3 .f32 :=
  select (broadcastInDim S10000x9x3 ![0, 1, 2] bcast_S10000x9x1_S10000x9x3_0_1_2 Z) (broadcastInDim S10000x9x3 ![]
    bcast_S_S10000x9x3 ((constant S_ .f32 0x7FC00000#32))) (Host.divf C (broadcastInDim S10000x9x3 ![0, 1, 2]
    bcast_S10000x9x1_S10000x9x3_0_1_2 (select Z (broadcastInDim S10000x9x1 ![] bcast_S_S10000x9x1 ((constant S_ .f32
    0x3F800000#32))) L)))

/-- The unit normals oriented by the first one. -/
def oriented (U : FVec Ideal S10000x9x3 .f32) : FVec Ideal S10000x9x3 .f32 :=
  mulf U (broadcastInDim S10000x9x3 ![0, 1, 2] bcast_S10000x1x1_S10000x9x3_0_1_2 ((broadcastInDim S10000x1x1 ![0]
    bcast_S10000_S10000x1x1_0 (select (cmpf .ogt (shapeCast _ (extractStridedSlice S10000x1x1 ![0, 0, 0] U
    slices_S10000x9x3_S10000x1x1_0_0_0) shapeCasts_S10000x1x1_S10000) (broadcastInDim S10000 ![] bcast_S_S10000
    (constant S_ .f32 0x00000000#32))) (broadcastInDim S10000 ![] bcast_S_S10000 (constant S_ .f32 0x3F800000#32))
    (broadcastInDim S10000 ![] bcast_S_S10000 (constant S_ .f32 0xBF800000#32))))))

/-- The triangles with a component that is not finite. -/
def missingOnes (N : FVec Ideal S10000x9x3 .f32) : IVec S10000x9 1 :=
  cmpi .sgt (Host.reduce IntOp.addi (extui 32 (noti (cmpf .olt (Host.absf N) (broadcastInDim S10000x9x3 ![]
    bcast_S_S10000x9x3 (constant S_ .f32 0x7F800000#32)))) natLt_1_32) (constantI S_ 32 0#32)
    reducesTo_S10000x9x3_S10000x9_d2 h_S_) (broadcastInDim S10000x9 ![] bcast_S_S10000x9 (constantI S_ 32 0#32))

/-- One where a normal is there, zero where it is missing. -/
def there (M : IVec S10000x9 1) : IVec S10000x9 32 :=
  extui 32 (noti M) natLt_1_32

/-- The first place whose normal is there. -/
def firstThere (H : IVec S10000x9 32) : IVec S10000x1x1 32 :=
  broadcastInDim S10000x1x1 ![0, 1] bcast_S10000x1_S10000x1x1_0_1 ((Host.topK S10000x1 1 (IntOp.cmpi .sgt) H
    sliceFits_S10000x9_S10000x1).2)

/-- The place to take; a negative one counts from the end. -/
def firstWrapped (Q : IVec S10000x1x1 32) : IVec S10000x1x1 32 :=
  select (cmpi .slt Q (broadcastInDim S10000x1x1 ![] bcast_S_S10000x1x1 (constantI S_ 32 0#32))) (addi Q
    (broadcastInDim S10000x1x1 ![] bcast_S_S10000x1x1 (constantI S_ 32 9#32))) Q

/-- Half the lengths over the temperature. -/
def logits (L : FVec Ideal S10000x9x1 .f32) : FVec Ideal S10000x9x1 .f32 :=
  Host.divf (mulf (broadcastInDim S10000x9x1 ![] bcast_S_S10000x9x1 (constant S_ .f32 0x3F000000#32)) L)
    (broadcastInDim S10000x9x1 ![] bcast_S_S10000x9x1 (constant S_ .f32 0x38D1B717#32))

/-- The exponentials of the logits less their greatest. -/
def powers (W : FVec Ideal S10000x9x1 .f32) : FVec Ideal S10000x9x1 .f32 :=
  Host.exp (subf W (broadcastInDim S10000x9x1 ![0, 1, 2] bcast_S10000x1x1_S10000x9x1_0_1_2 (broadcastInDim S10000x1x1
    ![0, 2] bcast_S10000x1_S10000x1x1_0_2 (maximumf (broadcastInDim S10000x1 ![] bcast_S_S10000x1 (constant S_ .f32
    0xFF800000#32)) (Host.reduce FloatOps.maximumf W (constant S_ .f32 0xFF800000#32) reducesTo_S10000x9x1_S10000x1_d1
    h_S_)))))

/-- The normals, mended, in their softmax mean. -/
def means (M : IVec S10000x9 1) (J : IVec S10000x1x1 32) (N : FVec Ideal S10000x9x3 .f32) (E : FVec Ideal S10000x9x1 .f32) : FVec Ideal S10000x3 .f32 :=
  Host.reduceAdd (mulf (select (broadcastInDim S10000x9x3 ![0, 1, 2] bcast_S10000x9x1_S10000x9x3_0_1_2 (broadcastInDim
    S10000x9x1 ![0, 1] bcast_S10000x9_S10000x9x1_0_1 M)) (broadcastInDim S10000x9x3 ![0, 1, 2]
    bcast_S10000x1x3_S10000x9x3_0_1_2 (select (broadcastInDim S10000x1x3 ![0, 1] bcast_S10000x1_S10000x1x3_0_1
    (Host.reduce IntOp.andi (andi (cmpi .sge J (broadcastInDim S10000x1x1 ![] bcast_S_S10000x1x1 (constantI S_ 32
    0#32))) (cmpi .sle J (broadcastInDim S10000x1x1 ![0, 1, 2] bcast_S1x1x1_S10000x1x1_0_1_2 (broadcastInDim S1x1x1 ![2]
    bcast_S1_S1x1x1_2 (constantI S1 32 8#32))))) (constantI S_ 1 1#1) reducesTo_S10000x1x1_S10000x1_d2 h_S_))
    (Host.gather gather_S10000x9x3_S10000x1x1_S10000x1x3_2_1_0_0_1_2_113 N J) (broadcastInDim S10000x1x3 ![]
    bcast_S_S10000x1x3 (constant S_ .f32 0x7FC00000#32)))) N) (broadcastInDim S10000x9x3 ![0, 1, 2]
    bcast_S10000x9x1_S10000x9x3_0_1_2 (Host.divf E (broadcastInDim S10000x9x1 ![0, 1, 2]
    bcast_S10000x1x1_S10000x9x1_0_1_2 (broadcastInDim S10000x1x1 ![0, 2] bcast_S10000x1_S10000x1x1_0_2 (Host.reduceAdd E
    (constant S_ .f32 0x00000000#32) reducesTo_S10000x9x1_S10000x1_d1 h_S_)))))) (constant S_ .f32 0x00000000#32)
    reducesTo_S10000x9x3_S10000x3_d1 h_S_

/-- The triangles with a component that is not a number. -/
def missingNone (N : FVec Ideal S10000x9x3 .f32) : IVec S10000x9 1 :=
  cmpi .sgt (Host.reduce IntOp.addi (extui 32 (cmpf .une N N) natLt_1_32) (constantI S_ 32 0#32)
    reducesTo_S10000x9x3_S10000x9_d2 h_S_) (broadcastInDim S10000x9 ![] bcast_S_S10000x9 (constantI S_ 32 0#32))

end Umbrella.Plain

end
-- ==== Proof.Sorts.lean ====
/- The stable sorts of the plain program, read row by row. -/
module

public import proofs.«01_k».proof.Proof.Order
public import Idealize.ShloMosaic.Lib.Pointwise

@[expose] public section

noncomputable section

namespace Umbrella

open Idealize.ShloMosaic

/-- A stable sort of rows carries the second operand to the places of the stable sort by any key that rises with the
    order. -/
theorem sort2_row {R N : ℕ} {α β κ : Type} [LinearOrder κ] (cmp : α × β → α × β → BitVec 1)
    (x : (⟨2, ![R, N]⟩ : Shape).Idx → α) (z : (⟨2, ![R, N]⟩ : Shape).Idx → β) (r : Fin R) (y : Fin N → κ)
    (hy : ∀ a b, (cmp (x (ix2 r a), z (ix2 r a)) (x (ix2 r b), z (ix2 r b)) == 1#1) = decide (y a < y b)) (k : Fin N) :
    (Host.sort2 ⟨2, ![R, N]⟩ 1 cmp x z).2 (ix2 r k) = z (ix2 r (nth y k)) := by
  have e (F : Fin N → (⟨2, ![R, N]⟩ : Shape).Idx) (hF : F = (ix2 r k : (⟨2, ![R, N]⟩ : Shape).Idx).along 1) :
      (Host.sort2 ⟨2, ![R, N]⟩ 1 cmp x z).2 (ix2 r k)
        = z (F (sortedFrom (fun a b : Fin N => cmp (x (F a), z (F a)) (x (F b), z (F b)) == 1#1) k)) := by subst hF; rfl
  rw [e (ix2 r) ?_]
  · unfold nth
    simp only [hy]
  · funext b e
    unfold Shape.Idx.along
    fin_cases e
    · rfl
    · rfl

/-- The positions of the greatest elements of a row are the first places of the stable sort by any key that falls as the
    elements rise. -/
theorem topK_row {R N K : ℕ} {α κ : Type} [LinearOrder κ] (gt : α → α → BitVec 1) (x : (⟨2, ![R, N]⟩ : Shape).Idx → α)
    (h : (⟨2, ![R, N]⟩ : Shape).Slices (fun _ => 0) ⟨2, ![R, K]⟩) (hK : K ≤ N) (r : Fin R) (y : Fin N → κ)
    (hy : ∀ a b, (gt (x (ix2 r a)) (x (ix2 r b)) == 1#1) = decide (y a < y b)) (k : Fin K) :
    (Host.topK ⟨2, ![R, K]⟩ 1 gt x h).2 (ix2 r k) = BitVec.ofNat 32 (nth y ⟨k.val, by omega⟩).val := by
  refine Eq.trans ?_ (sort2_row (fun l r => gt l.1 r.1) x (iotaInDim ⟨2, ![R, N]⟩ 32 1) r y hy ⟨k.val, by omega⟩)
  unfold Host.topK extractStridedSlice
  refine congrArg (Host.sort2 ⟨2, ![R, N]⟩ 1 (fun l r => gt l.1 r.1) x (iotaInDim ⟨2, ![R, N]⟩ 32 1)).2 (funext fun e => Fin.ext ?_)
  fin_cases e
  · exact Nat.zero_add _
  · exact Nat.zero_add _

end Umbrella

end
-- ==== Proof.Takes.lean ====
/- Taking rows at places held as words: the words are in range, so nothing wraps, clamps or is filled in. -/
module

public import proofs.«01_k».proof.Proof.Words
public import proofs.«01_k».proof.Proof.Gen.ReferenceFinIdeal
public import Idealize.ShloMosaic.Lib.Pointwise

@[expose] public section

set_option maxRecDepth 16384

noncomputable section

namespace Umbrella

open Idealize.ShloMosaic Cert.ReferenceFinIdeal

/-- A small word is not negative, so it does not wrap. -/
theorem wrap_word {n : ℕ} (hn : n < 2 ^ 31) (b : BitVec 32) :
    Scalar.select (IntOp.cmpi .slt (BitVec.ofNat 32 n) 0#32) b (BitVec.ofNat 32 n) = BitVec.ofNat 32 n := by
  rw [show (0#32 : BitVec 32) = BitVec.ofNat 32 0 from rfl, cmpi_slt_ofNat hn (by omega)]
  simp [Scalar.select]

/-- A small word is in range. -/
theorem inside_word {n q : ℕ} (hn : n ≤ q) (hq : q < 2 ^ 31) :
    IntOp.andi (IntOp.cmpi .sge (BitVec.ofNat 32 n) 0#32) (IntOp.cmpi .sle (BitVec.ofNat 32 n) (BitVec.ofNat 32 q)) = 1#1 := by
  have h1 : IntOp.cmpi .sge (BitVec.ofNat 32 n) 0#32 = 1#1 := by
    rw [show (0#32 : BitVec 32) = BitVec.ofNat 32 0 from rfl]
    simp only [IntOp.cmpi, BitVec.sle, toInt_ofNat (show n < 2 ^ 31 by omega), toInt_ofNat (show 0 < 2 ^ 31 by omega)]
    simp
  have h2 : IntOp.cmpi .sle (BitVec.ofNat 32 n) (BitVec.ofNat 32 q) = 1#1 := by
    simp only [IntOp.cmpi, BitVec.sle, toInt_ofNat (show n < 2 ^ 31 by omega), toInt_ofNat hq]
    simp [hn]
  rw [h1, h2]
  rfl

/-- The conjunction of one bit. -/
theorem fold_one (f : Fin 1 → BitVec 1) (h : f 0 = 1#1) : Finset.fold IntOp.andi 1#1 f Finset.univ = 1#1 := by
  rw [Finset.univ_unique, Finset.fold_singleton]
  show IntOp.andi (f 0) 1#1 = 1#1
  rw [h]
  rfl

/-- A small word clamps to itself. -/
theorem clamp_word {n q : ℕ} (hn : n ≤ q) (hq : q < 2 ^ 31) : min (BitVec.ofNat 32 n).toInt.toNat q = n := by
  rw [toInt_ofNat (by omega)]
  simpa using hn

/-- Rows of the cloud taken at a list of places. -/
theorem take_points {α : Type} (X : S10000x3.Idx → α) (J : IVec S90000x1 32) (p : Fin 90000) (n : Fin 10000) (a : Fin 3)
    (h : J (ix2 p 0) = BitVec.ofNat 32 n.val) :
    Host.gather gather_S10000x3_S90000x1_S90000x3_1_0_n_n_0_1_13 X J (ix2 p a) = X (ix2 n a) := by
  have e : gather_S10000x3_S90000x1_S90000x3_1_0_n_n_0_1_13.siIdx (ix2 p a) ⟨0, by decide⟩ = ix2 p 0 := by
    funext b
    fin_cases b <;> rfl
  unfold Host.gather
  refine congrArg X (funext fun b => Fin.ext ?_)
  fin_cases b
  · show min (J (gather_S10000x3_S90000x1_S90000x3_1_0_n_n_0_1_13.siIdx (ix2 p a) ⟨0, by decide⟩)).toInt.toNat 9999 + 0 + 0 = n.val
    rw [e, h]
    exact clamp_word (by omega) (by omega)
  · show 0 + 0 + a.val = a.val
    omega

/-- Neighbours of a point taken at nine places. -/
theorem take_nine {α : Type} (X : S10000x9x3.Idx → α) (J : IVec S10000x9x1 32) (i : Fin 10000) (k : Fin 9) (n : Fin 9) (a : Fin 3)
    (h : J (ix3 i k 0) = BitVec.ofNat 32 n.val) :
    Host.gather gather_S10000x9x3_S10000x9x1_S10000x9x3_2_1_0_0_1_2_113 X J (ix3 i k a) = X (ix3 i n a) := by
  have e : gather_S10000x9x3_S10000x9x1_S10000x9x3_2_1_0_0_1_2_113.siIdx (ix3 i k a) ⟨0, by decide⟩ = ix3 i k 0 := by
    funext b
    fin_cases b <;> rfl
  unfold Host.gather
  refine congrArg X (funext fun b => Fin.ext ?_)
  fin_cases b
  · show 0 + i.val + 0 = i.val
    omega
  · show min (J (gather_S10000x9x3_S10000x9x1_S10000x9x3_2_1_0_0_1_2_113.siIdx (ix3 i k a) ⟨0, by decide⟩)).toInt.toNat 8 + 0 + 0 = n.val
    rw [e, h]
    exact clamp_word (by omega) (by omega)
  · show 0 + 0 + a.val = a.val
    omega

/-- A normal of a point taken at one place. -/
theorem take_one {α : Type} (X : S10000x9x3.Idx → α) (J : IVec S10000x1x1 32) (i : Fin 10000) (n : Fin 9) (a : Fin 3)
    (h : J (ix3 i 0 0) = BitVec.ofNat 32 n.val) :
    Host.gather gather_S10000x9x3_S10000x1x1_S10000x1x3_2_1_0_0_1_2_113 X J (ix3 i 0 a) = X (ix3 i n a) := by
  have e : gather_S10000x9x3_S10000x1x1_S10000x1x3_2_1_0_0_1_2_113.siIdx (ix3 i 0 a) ⟨0, by decide⟩ = ix3 i 0 0 := by
    funext b
    fin_cases b <;> rfl
  unfold Host.gather
  refine congrArg X (funext fun b => Fin.ext ?_)
  fin_cases b
  · show 0 + i.val + 0 = i.val
    omega
  · show min (J (gather_S10000x9x3_S10000x1x1_S10000x1x3_2_1_0_0_1_2_113.siIdx (ix3 i 0 a) ⟨0, by decide⟩)).toInt.toNat 8 + 0 + 0 = n.val
    rw [e, h]
    exact clamp_word (by omega) (by omega)
  · show 0 + 0 + a.val = a.val
    omega

end Umbrella

end
-- ==== Proof.PlainNear.lean ====
/- The plain program's neighbours, point by point. -/
module

public import proofs.«01_k».proof.Proof.Plain
public import proofs.«01_k».proof.Proof.Sorts
public import proofs.«01_k».proof.Proof.Takes
public import proofs.«01_k».proof.Proof.Point

@[expose] public section

set_option maxRecDepth 16384

noncomputable section

namespace Umbrella.Plain

open Idealize.ShloMosaic Cert.ReferenceFinIdeal Cert.ReferenceFinIdeal.Facts₀ Cert.ReferenceFinIdeal.Facts

/-- A cloud by points and coordinates. -/
def pointsOf (X : FVec Ideal S10000x3 .f32) (i : Fin 10000) (a : Fin 3) : EReal := X (ix2 i a)

/-- The negated distances. -/
theorem distances_at (X : FVec Ideal S10000x3 .f32) (i j : Fin 10000) : distances X (ix2 i j) = -(distOf (pointsOf X) i j) := by
  pointwise [distances]
  rfl

/-- Greater of two negated values is the less of the two. -/
theorem greater_neg (a b : EReal) :
    (FloatOps.cmpfTotal (F := Ideal) (φ := .f32) .gt (-a) (-b) == 1#1) = decide (a < b) := by
  show (BitVec.ofBool (decide (-b < -a)) == 1#1) = decide (a < b)
  rw [show decide (-b < -a) = decide (a < b) from decide_eq_decide.2 EReal.neg_lt_neg_iff]
  cases decide (a < b) <;> rfl

/-- The nearest points. -/
theorem nearest_at (K : FVec Ideal S10000x10000 .f32) (c : Fin 10000 → Fin 3 → EReal) (i : Fin 10000)
    (hK : ∀ j, K (ix2 i j) = -(distOf c i j)) (k : Fin 9) : nearest K (ix2 i k) = BitVec.ofNat 32 (near c i k).val := by
  refine topK_row (FloatOps.cmpfTotal (F := Ideal) (φ := .f32) .gt) K _ (by omega) i (distOf c i) (fun a b => ?_) k
  rw [hK, hK]
  exact greater_neg _ _

/-- The nearest points in one line. -/
theorem flat_at (T : IVec S10000x9 32) (i : Fin 10000) (k : Fin 9) : flat T (ix1 ⟨i.val * 9 + k.val, by omega⟩) = T (ix2 i k) := by
  pointwise [flat]

/-- A small place does not wrap. -/
theorem starts_at (T : IVec S90000 32) (p : Fin 90000) (n : Fin 10000) (h : T (ix1 p) = BitVec.ofNat 32 n.val) :
    starts T (ix2 p 0) = BitVec.ofNat 32 n.val := by
  pointwise [starts]
  rw [h]
  exact wrap_word (by omega) _

/-- A neighbour taken from the cloud, relative to the point. -/
theorem relative_at (X : FVec Ideal S10000x3 .f32) (J : IVec S90000x1 32) (i : Fin 10000) (k : Fin 9) (n : Fin 10000)
    (h : J (ix2 ⟨i.val * 9 + k.val, by omega⟩ 0) = BitVec.ofNat 32 n.val) (a : Fin 3) :
    relative X J (ix3 i k a) = X (ix2 n a) - X (ix2 i a) := by
  pointwise [relative]
  rw [take_points X J _ n a h, fold_one _ (by rw [h]; exact inside_word (by omega) (by omega))]
  rfl

/-- The turned neighbours' coordinates. -/
theorem turned_at (G : FVec Ideal S10000x9x3 .f32) (i : Fin 10000) (k : Fin 9) (a : Fin 3) :
    turned G (ix3 i k a) = ∑ b, G (ix3 i k b) * Ideal.ofBits .f32 (rotBits b a) := by
  pointwise [turned]
  refine Finset.sum_congr rfl fun b _ => congrArg (G (ix3 i k b) * ·) ?_
  fin_cases b <;> fin_cases a <;> rfl

/-- The azimuths. -/
theorem azimuths_at (R : FVec Ideal S10000x9x3 .f32) (i : Fin 10000) (k : Fin 9) : azimuths R (ix2 i k)
    = Ideal.div (Ideal.atan2 (R (ix3 i k 1)) (R (ix3 i k 0))) (Ideal.ofBits .f32 0x40C90FDB#32) + Ideal.ofBits .f32 0x3F000000#32 := by
  pointwise [azimuths]

/-- The comparison of two numbers by the order of numbers. -/
theorem comparator_at (l r : EReal × BitVec 32) :
    (comparator_f32_i32_d1 (F := Ideal) l r == 1#1) = decide (l.1 < r.1) := by
  have plain (v : EReal) : Scalar.select (FloatOps.cmpf (F := Ideal) (φ := .f32) .une v v) (Ideal.ofBits .f32 0x7FC00000#32)
      (Scalar.select (FloatOps.cmpf (F := Ideal) (φ := .f32) .oeq v (Ideal.ofBits .f32 0x00000000#32))
        (Ideal.ofBits .f32 0x00000000#32) v) = v := by
    have h1 : FloatOps.cmpf (F := Ideal) (φ := .f32) .une v v = 0#1 := by
      show BitVec.ofBool (decide (v ≠ v)) = 0#1
      simp
    have h2 : FloatOps.cmpf (F := Ideal) (φ := .f32) .oeq v (Ideal.ofBits .f32 0x00000000#32)
        = BitVec.ofBool (decide (v = Ideal.ofBits .f32 0x00000000#32)) := rfl
    rw [h1, h2, select_ofBool]
    show (if v = Ideal.ofBits .f32 0x00000000#32 then Ideal.ofBits .f32 0x00000000#32 else v) = v
    split
    · rename_i h; exact h.symm
    · rfl
  show (FloatOps.cmpfTotal (F := Ideal) (φ := .f32) .lt (Scalar.select _ _ (Scalar.select _ _ l.1))
    (Scalar.select _ _ (Scalar.select _ _ r.1)) == 1#1) = _
  refine Eq.trans (congrArg₂ (fun u v => FloatOps.cmpfTotal (F := Ideal) (φ := .f32) .lt u v == 1#1) (plain l.1) (plain r.1)) ?_
  show (BitVec.ofBool (decide (l.1 < r.1)) == 1#1) = decide (l.1 < r.1)
  cases decide (l.1 < r.1) <;> rfl

/-- The places in order of azimuth. -/
theorem order_at (A : FVec Ideal S10000x9 .f32) (i : Fin 10000) (k : Fin 9) :
    order A places (ix3 i k 0) = BitVec.ofNat 32 (nth (fun q => A (ix2 i q)) k).val := by
  pointwise [order]
  exact sort2_row (comparator_f32_i32_d1 (F := Ideal)) A places i (fun q => A (ix2 i q)) (fun a b => comparator_at _ _) k

/-- A small place does not wrap. -/
theorem wrapped_at (O : IVec S10000x9x1 32) (i : Fin 10000) (k : Fin 9) (n : Fin 9)
    (h : O (ix3 i k 0) = BitVec.ofNat 32 n.val) : wrapped O (ix3 i k 0) = BitVec.ofNat 32 n.val := by
  pointwise [wrapped]
  rw [h]
  exact wrap_word (by omega) _

/-- The neighbours in order. -/
theorem ordered_at (J : IVec S10000x9x1 32) (G : FVec Ideal S10000x9x3 .f32) (i : Fin 10000) (k : Fin 9) (n : Fin 9)
    (h : J (ix3 i k 0) = BitVec.ofNat 32 n.val) (a : Fin 3) : ordered J G (ix4 i k 0 a) = G (ix3 i n a) := by
  pointwise [ordered]
  rw [take_nine G J i k n a h, fold_one _ (by rw [h]; exact inside_word (by omega) (by omega))]
  rfl

end Umbrella.Plain

end
-- ==== Proof.PlainNormals.lean ====
/- The plain program's normals, point by point. -/
module

public import proofs.«01_k».proof.Proof.Plain
public import proofs.«01_k».proof.Proof.Sorts
public import proofs.«01_k».proof.Proof.Takes
public import proofs.«01_k».proof.Proof.Row
public import proofs.«01_k».proof.Proof.Rounds

@[expose] public section

set_option maxRecDepth 16384

noncomputable section

namespace Umbrella.Plain

open Idealize.ShloMosaic Cert.ReferenceFinIdeal Cert.ReferenceFinIdeal.Facts₀ Cert.ReferenceFinIdeal.Facts

section Triangles

variable (S : FVec Ideal S10000x9x1x3 .f32) (i : Fin 10000) (s : Fin 9 → Fin 3 → EReal)

/-- The triangle's own corner is the origin. -/
theorem triangles_at0 (k : Fin 9) (a : Fin 3) : triangles S (ix4 i k 0 a) = 0 := by
  pointwise [triangles]

/-- Its second corner is the neighbour. -/
theorem triangles_at1 (k : Fin 9) (a : Fin 3) : triangles S (ix4 i k 1 a) = S (ix4 i k 0 a) := by
  pointwise [triangles]

/-- Its third corner is the next neighbour around. -/
theorem triangles_at2 (k : Fin 9) (a : Fin 3) : triangles S (ix4 i k 2 a) = S (ix4 i (k + 1) 0 a) := by
  pointwise [triangles]
  fin_cases k <;> rfl

end Triangles

/-- The first edge. -/
theorem edgeOne_at (T : FVec Ideal S10000x9x3x3 .f32) (i : Fin 10000) (k : Fin 9) (a : Fin 3) :
    edgeOne T (ix3 i k a) = T (ix4 i k 1 a) - T (ix4 i k 0 a) := by
  pointwise [edgeOne]

/-- The second edge. -/
theorem edgeTwo_at (T : FVec Ideal S10000x9x3x3 .f32) (i : Fin 10000) (k : Fin 9) (a : Fin 3) :
    edgeTwo T (ix3 i k a) = T (ix4 i k 2 a) - T (ix4 i k 0 a) := by
  pointwise [edgeTwo]

/-- The cross products. -/
theorem crossed_at (B C : FVec Ideal S10000x9x3 .f32) (i : Fin 10000) (s : Fin 9 → Fin 3 → EReal) (k : Fin 9)
    (hB : ∀ a, B (ix3 i k a) = s k a) (hC : ∀ a, C (ix3 i k a) = s (k + 1) a) (a : Fin 3) :
    crossed B C (ix3 i k a) = crossAt s k a := by
  pointwise [crossed]
  simp only [hB, hC]
  fin_cases a <;> rfl

/-- The lengths. -/
theorem lengths_at (C : FVec Ideal S10000x9x3 .f32) (i : Fin 10000) (s : Fin 9 → Fin 3 → EReal) (k : Fin 9)
    (hC : ∀ a, C (ix3 i k a) = crossAt s k a) : lengths C (ix3 i k 0) = lenAt s k := by
  pointwise [lengths]
  simp only [hC]
  rfl

/-- The unit normals. -/
theorem units_at (C : FVec Ideal S10000x9x3 .f32) (L : FVec Ideal S10000x9x1 .f32) (i : Fin 10000)
    (s : Fin 9 → Fin 3 → EReal) (k : Fin 9) (hC : ∀ a, C (ix3 i k a) = crossAt s k a) (hL : L (ix3 i k 0) = lenAt s k)
    (a : Fin 3) : units (flatOnes L) C L (ix3 i k a) = unitAt s k a := by
  pointwise [units, flatOnes]
  rw [hC, hL]
  unfold unitAt
  split
  · rfl
  · rfl

/-- The oriented normals. -/
theorem oriented_at (U : FVec Ideal S10000x9x3 .f32) (i : Fin 10000) (s : Fin 9 → Fin 3 → EReal)
    (hU : ∀ k a, U (ix3 i k a) = unitAt s k a) (k : Fin 9) (a : Fin 3) : oriented U (ix3 i k a) = normalAt s k a := by
  pointwise [oriented]
  simp only [hU]
  rfl

/-- A count of three bits is positive where one of them is set. -/
theorem count_word (b : Fin 3 → Bool) :
    IntOp.cmpi .sgt (Finset.fold IntOp.addi 0#32 (fun x => BitVec.setWidth 32 (BitVec.ofBool (b x))) Finset.univ) 0#32
      = BitVec.ofBool (b 0 || b 1 || b 2) := by
  rw [show b = ![b 0, b 1, b 2] from by funext x; fin_cases x <;> rfl]
  cases b 0 <;> cases b 1 <;> cases b 2 <;> decide

/-- The normals with a component that is not finite. -/
theorem missingOnes_at (N : FVec Ideal S10000x9x3 .f32) (i : Fin 10000) (s : Fin 9 → Fin 3 → EReal) (k : Fin 9)
    (hN : ∀ a, N (ix3 i k a) = normalAt s k a) :
    missingOnes N (ix2 i k) = BitVec.ofBool (missing s (fun v => !decide (max v (-v) < (⊤ : EReal))) k) := by
  pointwise [missingOnes]
  simp only [hN, inf_f32]
  refine Eq.trans (congrArg (IntOp.cmpi .sgt · 0#32) (congrArg (Finset.fold IntOp.addi 0#32 · Finset.univ) (funext fun a => ?_)))
    (count_word fun a => !decide (max (normalAt s k a) (-(normalAt s k a)) < (⊤ : EReal)))
  show BitVec.setWidth 32 (~~~BitVec.ofBool (decide (max (normalAt s k a) (-(normalAt s k a)) < (⊤ : EReal)))) = _
  cases decide (max (normalAt s k a) (-(normalAt s k a)) < (⊤ : EReal)) <;> rfl

/-- The normals with a component that is not a number: none. -/
theorem missingNone_at (N : FVec Ideal S10000x9x3 .f32) (i : Fin 10000) (s : Fin 9 → Fin 3 → EReal) (k : Fin 9) :
    missingNone N (ix2 i k) = BitVec.ofBool (missing s (fun _ => false) k) := by
  pointwise [missingNone]
  refine Eq.trans (congrArg (IntOp.cmpi .sgt · 0#32) (congrArg (Finset.fold IntOp.addi 0#32 · Finset.univ) (funext fun a => ?_)))
    (count_word fun _ => false)
  simp

/-- The order of the words that tell what is there: those there come first. -/
theorem there_word (u v : Bool) : (IntOp.cmpi .sgt (BitVec.setWidth 32 (~~~BitVec.ofBool u)) (BitVec.setWidth 32 (~~~BitVec.ofBool v))
    == 1#1) = decide ((if u then (1 : ℕ) else 0) < if v then (1 : ℕ) else 0) := by
  cases u <;> cases v <;> decide

/-- What is there, as words. -/
theorem there_at (M : IVec S10000x9 1) (i : Fin 10000) (k : Fin 9) :
    there M (ix2 i k) = BitVec.setWidth 32 (~~~(M (ix2 i k))) := by
  pointwise [there]

/-- The first place whose normal is there. -/
theorem firstThere_at (M : IVec S10000x9 1) (i : Fin 10000) (miss : Fin 9 → Bool)
    (hM : ∀ k, M (ix2 i k) = BitVec.ofBool (miss k)) :
    firstWrapped (firstThere (there M)) (ix3 i 0 0) = BitVec.ofNat 32 (firstOf miss).val := by
  have h : (Host.topK S10000x1 1 (IntOp.cmpi .sgt) (there M) sliceFits_S10000x9_S10000x1).2 (ix2 i 0)
      = BitVec.ofNat 32 (firstOf miss).val :=
    topK_row (IntOp.cmpi .sgt) (there M) _ (by omega) i (fun p => if miss p then (1 : ℕ) else 0)
      (fun a b => by rw [there_at, there_at, hM, hM]; exact there_word _ _) 0
  pointwise [firstWrapped, firstThere]
  rw [h]
  exact wrap_word (by omega) _

/-- The logits. -/
theorem logits_at (L : FVec Ideal S10000x9x1 .f32) (i : Fin 10000)
    (s : Fin 9 → Fin 3 → EReal) (k : Fin 9) (hL : L (ix3 i k 0) = lenAt s k) : logits L (ix3 i k 0) = logitAt s k := by
  pointwise [logits]
  rw [hL]
  rfl

/-- The powers. -/
theorem powers_at (W : FVec Ideal S10000x9x1 .f32) (i : Fin 10000)
    (s : Fin 9 → Fin 3 → EReal) (hW : ∀ k, W (ix3 i k 0) = logitAt s k) (k : Fin 9) : powers W (ix3 i k 0) = powerAt s k := by
  pointwise [powers]
  simp only [hW]
  rw [max_eq_right (Finset.le_fold_max _ |>.2 (.inl le_rfl))]
  rfl

/-- The mean normal. -/
theorem means_at (M : IVec S10000x9 1) (J : IVec S10000x1x1 32) (N : FVec Ideal S10000x9x3 .f32) (E : FVec Ideal S10000x9x1 .f32)
    (i : Fin 10000) (s : Fin 9 → Fin 3 → EReal) (bad : EReal → Bool)
    (hM : ∀ k, M (ix2 i k) = BitVec.ofBool (missing s bad k)) (hJ : J (ix3 i 0 0) = BitVec.ofNat 32 (firstOf (missing s bad)).val)
    (hN : ∀ k a, N (ix3 i k a) = normalAt s k a) (hE : ∀ k, E (ix3 i k 0) = powerAt s k) (a : Fin 3) :
    means M J N E (ix2 i a) = meanNormal s bad a := by
  pointwise [means]
  simp only [hM, hN, hE]
  rw [take_one N J i _ a hJ, fold_one _ (by rw [hJ]; exact inside_word (by omega) (by omega)), hN]
  unfold meanNormal mended weightAt
  refine Finset.sum_congr rfl fun p _ => ?_
  cases missing s bad p <;> rfl

end Umbrella.Plain

end
-- ==== Proof.PlainPoint.lean ====
/- The plain program's two results, composed of its stages, at a point. -/
module

public import proofs.«01_k».proof.Proof.PlainNear
public import proofs.«01_k».proof.Proof.PlainNormals

@[expose] public section

set_option maxRecDepth 16384

noncomputable section

namespace Umbrella.Plain

open Idealize.ShloMosaic Cert.ReferenceFinIdeal

section Stages

variable (X : FVec Ideal S10000x3 .f32)

/-- The nine nearest points of every point. -/
def nine : IVec S10000x9 32 := nearest (distances X)

/-- Their relative positions. -/
def around : FVec Ideal S10000x9x3 .f32 := relative X (starts (flat (nine X)))

/-- Their azimuths. -/
def angle : FVec Ideal S10000x9 .f32 := azimuths (turned (around X))

/-- The relative positions in order of azimuth. -/
def inOrder : FVec Ideal S10000x9x1x3 .f32 := ordered (wrapped (order (angle X) places)) (around X)

/-- The cross products. -/
def cross : FVec Ideal S10000x9x3 .f32 := crossed (edgeOne (triangles (inOrder X))) (edgeTwo (triangles (inOrder X)))

/-- The oriented normals. -/
def normal : FVec Ideal S10000x9x3 .f32 :=
  oriented (units (flatOnes (lengths (cross X))) (cross X) (lengths (cross X)))

/-- The mean normals, the missing ones told by `M`. -/
def mean (M : FVec Ideal S10000x9x3 .f32 → IVec S10000x9 1) : FVec Ideal S10000x3 .f32 :=
  means (M (normal X)) (firstWrapped (firstThere (there (M (normal X))))) (normal X)
    (powers (logits (lengths (cross X))))

variable (i : Fin 10000)

/-- The nine nearest points are those nearest. -/
theorem nine_at (k : Fin 9) : nine X (ix2 i k) = BitVec.ofNat 32 (near (pointsOf X) i k).val :=
  nearest_at _ _ i (distances_at X i) k

/-- The relative positions. -/
theorem around_at (k : Fin 9) (a : Fin 3) : around X (ix3 i k a) = relAt (pointsOf X) i k a :=
  relative_at X _ i k (near (pointsOf X) i k) (starts_at _ _ _ ((flat_at _ i k).trans (nine_at X i k))) a

/-- The azimuths. -/
theorem angle_at (k : Fin 9) : angle X (ix2 i k) = azimAt (pointsOf X) i k := by
  unfold angle
  rw [azimuths_at, turned_at, turned_at]
  simp only [around_at]
  rfl

/-- The relative positions in order of azimuth. -/
theorem inOrder_at (k : Fin 9) (a : Fin 3) :
    inOrder X (ix4 i k 0 a) = sorted (azimAt (pointsOf X) i) (relAt (pointsOf X) i) k a := by
  have h := wrapped_at _ i k _ (order_at (angle X) i k)
  refine (ordered_at _ _ i k _ h a).trans ((around_at X i _ a).trans ?_)
  unfold sorted
  exact congrArg (fun f => relAt (pointsOf X) i (nth f k) a) (funext fun q => angle_at X i q)

/-- The cross products. -/
theorem cross_at (k : Fin 9) (a : Fin 3) :
    cross X (ix3 i k a) = crossAt (sorted (azimAt (pointsOf X) i) (relAt (pointsOf X) i)) k a := by
  refine crossed_at _ _ i _ k (fun b => ?_) (fun b => ?_) a
  · rw [edgeOne_at, triangles_at1, triangles_at0, sub_zero, inOrder_at]
  · rw [edgeTwo_at, triangles_at2, triangles_at0, sub_zero, inOrder_at]

/-- The lengths. -/
theorem length_at (k : Fin 9) :
    lengths (cross X) (ix3 i k 0) = lenAt (sorted (azimAt (pointsOf X) i) (relAt (pointsOf X) i)) k :=
  lengths_at _ i _ k (cross_at X i k)

/-- The oriented normals. -/
theorem normal_at (k : Fin 9) (a : Fin 3) :
    normal X (ix3 i k a) = normalAt (sorted (azimAt (pointsOf X) i) (relAt (pointsOf X) i)) k a :=
  oriented_at _ i _ (fun k a => units_at _ _ i _ k (cross_at X i k) (length_at X i k) a) k a

/-- The mean normals. -/
theorem mean_at (M : FVec Ideal S10000x9x3 .f32 → IVec S10000x9 1) (bad : EReal → Bool)
    (hM : ∀ k, M (normal X) (ix2 i k)
      = BitVec.ofBool (missing (sorted (azimAt (pointsOf X) i) (relAt (pointsOf X) i)) bad k)) (a : Fin 3) :
    mean X M (ix2 i a) = pointNormal (pointsOf X) bad i a :=
  means_at _ _ _ _ i _ bad hM (firstThere_at _ i _ hM) (normal_at X i)
    (powers_at _ i _ (fun k => logits_at _ i _ k (length_at X i k))) a

end Stages

end Umbrella.Plain

end
-- ==== Proof.PlainFin.lean ====
/- The run of the plain program that tests for finiteness: its results at every point. -/
module

public import proofs.«01_k».proof.Proof.PlainPoint
public import proofs.«01_k».proof.Proof.Gen.ReferenceFinIdeal.Run

@[expose] public section

set_option maxRecDepth 16384

noncomputable section

namespace Umbrella.PlainFin

open Idealize.ShloMosaic Idealize.ShloMosaic.TcCoe Idealize.SL.Sem Cert.ReferenceFinIdeal Cert.ReferenceFinIdeal.Value

variable (m : (ℓ : Loc nD τ sig) → Buf (Elt Ideal) ℓ)

/-- The cloud as the argument holds it. -/
abbrev arg (c : Dev nD) : FVec Ideal S10000x3 .f32 := m ((c : Thread nD τ).loc main_arg0)

section Terms

variable (V : Valuation τ sig (Elt Ideal)) (X : FVec Ideal S10000x3 .f32) (hX : V (Proc.devRef .tc main_arg0) = X)

include hX

/-- The negated distances. -/
theorem term17 : res_main_v17 V = Plain.distances X := by subst hX; rfl
/-- The nearest points in one line. -/
theorem term18 : res_main_v18 V = Plain.flat (Plain.nine X) := by
  unfold res_main_v18; rw [term17 V X hX]; rfl
/-- The relative positions. -/
theorem term23 : res_main_v23 V = Plain.around X := by
  unfold res_main_v23 res_main_call0_v5; rw [term18 V X hX, hX]; rfl
/-- The azimuths. -/
theorem term33 : res_main_v33 V = Plain.angle X := by
  unfold res_main_v33 res_main_v24; rw [term23 V X hX]; rfl
/-- The relative positions in order. -/
theorem term37 : res_main_v37 V = Plain.inOrder X := by
  unfold res_main_v37 res_main_call2_v4 res_main_v35; rw [term33 V X hX, term23 V X hX]; rfl
/-- The cross products. -/
theorem term87 : res_main_v87 V = Plain.cross X := by
  unfold res_main_v87 res_main_v45 res_main_v50 res_main_v40; rw [term37 V X hX]; rfl
/-- The lengths. -/
theorem term88 : res_main_v88 V = Plain.lengths (Plain.cross X) := by
  unfold res_main_v88; rw [term87 V X hX]; rfl
/-- The oriented normals. -/
theorem term103 : res_main_v103 V = Plain.normal X := by
  unfold res_main_v103 res_main_v94 res_main_v90; rw [term87 V X hX, term88 V X hX]; rfl

end Terms

/-- The test for a missing component. -/
def bad (v : EReal) : Bool := !decide (max v (-v) < (⊤ : EReal))

/-- The run of the plain program: the nearest points and the mean normals of the cloud; the arguments stand. -/
theorem run (ρ : Dev nD → PrngReg) : θ_run defs (onTc (τ := τ) (main (F := Ideal))) ⟨m, fun _ => 0, ρ⟩ (fun r => ∀ c : Dev nD,
    r.2.mem ((c : Thread nD τ).loc main_indices)
      = (fun I : S10000x9.Idx => BitVec.ofNat 32 (near (Plain.pointsOf (arg m c)) (I 0) (I 1)).val)
    ∧ r.2.mem ((c : Thread nD τ).loc main_v136)
      = (fun I : S10000x3.Idx => pointNormal (Plain.pointsOf (arg m c)) bad (I 0) (I 1))
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ?_) (Cert.ReferenceFinIdeal.Value.run m ρ)
  obtain ⟨h0, h1, h2, h3⟩ := h c
  refine ⟨h0.trans ?_, h1.trans ?_, h2, h3⟩
  · rw [term17 (StableHlo.launchContents m c) (arg m c) rfl]
    funext I
    obtain ⟨i, k, rfl⟩ : ∃ (i : Fin 10000) (k : Fin 9), I = ix2 i k := ⟨I 0, I 1, eq_ix2 I⟩
    exact Plain.nine_at (arg m c) i k
  · refine Eq.trans (b := Plain.mean (arg m c) Plain.missingOnes) ?_ ?_
    · unfold res_main_call8_v4 res_main_v116 res_main_v115 res_main_v113 res_main_v129 res_main_v122
      rw [term103 (StableHlo.launchContents m c) (arg m c) rfl, term88 (StableHlo.launchContents m c) (arg m c) rfl]
      rfl
    funext I
    obtain ⟨i, a, rfl⟩ : ∃ (i : Fin 10000) (a : Fin 3), I = ix2 i a := ⟨I 0, I 1, eq_ix2 I⟩
    exact Plain.mean_at (arg m c) i Plain.missingOnes bad (fun k => Plain.missingOnes_at _ i _ k (Plain.normal_at _ i k)) a

end Umbrella.PlainFin

end
-- ==== Proof.PlainNan.lean ====
/- The run of the plain program that tests for being a number: its results at every point. -/
module

public import proofs.«01_k».proof.Proof.PlainPoint
public import proofs.«01_k».proof.Proof.Gen.ReferenceIdeal.Run

@[expose] public section

set_option maxRecDepth 16384

noncomputable section

namespace Umbrella.PlainNan

open Idealize.ShloMosaic Idealize.ShloMosaic.TcCoe Idealize.SL.Sem Cert.ReferenceIdeal Cert.ReferenceIdeal.Value

variable (m : (ℓ : Loc nD τ sig) → Buf (Elt Ideal) ℓ)

/-- The cloud as the argument holds it. -/
abbrev arg (c : Dev nD) : FVec Ideal S10000x3 .f32 := m ((c : Thread nD τ).loc main_arg0)

section Terms

variable (V : Valuation τ sig (Elt Ideal)) (X : FVec Ideal S10000x3 .f32) (hX : V (Proc.devRef .tc main_arg0) = X)

include hX

/-- The negated distances. -/
theorem term17 : res_main_v17 V = Plain.distances X := by subst hX; rfl
/-- The nearest points in one line. -/
theorem term18 : res_main_v18 V = Plain.flat (Plain.nine X) := by
  unfold res_main_v18; rw [term17 V X hX]; rfl
/-- The relative positions. -/
theorem term23 : res_main_v23 V = Plain.around X := by
  unfold res_main_v23 res_main_call0_v5; rw [term18 V X hX, hX]; rfl
/-- The azimuths. -/
theorem term33 : res_main_v33 V = Plain.angle X := by
  unfold res_main_v33 res_main_v24; rw [term23 V X hX]; rfl
/-- The relative positions in order. -/
theorem term37 : res_main_v37 V = Plain.inOrder X := by
  unfold res_main_v37 res_main_call2_v4 res_main_v35; rw [term33 V X hX, term23 V X hX]; rfl
/-- The cross products. -/
theorem term87 : res_main_v87 V = Plain.cross X := by
  unfold res_main_v87 res_main_v45 res_main_v50 res_main_v40; rw [term37 V X hX]; rfl
/-- The lengths. -/
theorem term88 : res_main_v88 V = Plain.lengths (Plain.cross X) := by
  unfold res_main_v88; rw [term87 V X hX]; rfl
/-- The oriented normals. -/
theorem term103 : res_main_v103 V = Plain.normal X := by
  unfold res_main_v103 res_main_v94 res_main_v90; rw [term87 V X hX, term88 V X hX]; rfl

end Terms

/-- The test for a missing component. -/
def bad (_ : EReal) : Bool := false

/-- The run of the plain program: the nearest points and the mean normals of the cloud; the arguments stand. -/
theorem run (ρ : Dev nD → PrngReg) : θ_run defs (onTc (τ := τ) (main (F := Ideal))) ⟨m, fun _ => 0, ρ⟩ (fun r => ∀ c : Dev nD,
    r.2.mem ((c : Thread nD τ).loc main_indices)
      = (fun I : S10000x9.Idx => BitVec.ofNat 32 (near (Plain.pointsOf (arg m c)) (I 0) (I 1)).val)
    ∧ r.2.mem ((c : Thread nD τ).loc main_v133)
      = (fun I : S10000x3.Idx => pointNormal (Plain.pointsOf (arg m c)) bad (I 0) (I 1))
    ∧ r.2.mem ((c : Thread nD τ).loc main_arg0) = m ((c : Thread nD τ).loc main_arg0)
    ∧ r.2.mem ((c : Thread nD τ).loc main_arg1) = m ((c : Thread nD τ).loc main_arg1)) := by
  refine (θ_run defs _ _).mono (fun r h c => ?_) (Cert.ReferenceIdeal.Value.run m ρ)
  obtain ⟨h0, h1, h2, h3⟩ := h c
  refine ⟨h0.trans ?_, h1.trans ?_, h2, h3⟩
  · rw [term17 (StableHlo.launchContents m c) (arg m c) rfl]
    funext I
    obtain ⟨i, k, rfl⟩ : ∃ (i : Fin 10000) (k : Fin 9), I = ix2 i k := ⟨I 0, I 1, eq_ix2 I⟩
    exact Plain.nine_at (arg m c) i k
  · refine Eq.trans (b := Plain.mean (arg m c) Plain.missingNone) ?_ ?_
    · unfold res_main_call8_v4 res_main_v113 res_main_v112 res_main_v110 res_main_v126 res_main_v119
      rw [term103 (StableHlo.launchContents m c) (arg m c) rfl, term88 (StableHlo.launchContents m c) (arg m c) rfl]
      rfl
    funext I
    obtain ⟨i, a, rfl⟩ : ∃ (i : Fin 10000) (a : Fin 3), I = ix2 i a := ⟨I 0, I 1, eq_ix2 I⟩
    exact Plain.mean_at (arg m c) i Plain.missingNone bad (fun k => Plain.missingNone_at _ i _ k) a

end Umbrella.PlainNan

end
-- ==== Proof.Values.lean ====
/- The value claims: where every coordinate is finite, the kernel and the plain program leave the same nearest points and
   the same mean normals. -/
module

public import proofs.«01_k».proof.Defs
public import proofs.«01_k».proof.Proof.Finite
public import proofs.«01_k».proof.Proof.RunFin
public import proofs.«01_k».proof.Proof.RunNan
public import proofs.«01_k».proof.Proof.PlainFin
public import proofs.«01_k».proof.Proof.PlainNan

@[expose] public section

set_option maxRecDepth 16384

noncomputable section

namespace Umbrella.Values

open Idealize.ShloMosaic Idealize.ShloMosaic.TcCoe Idealize.SL.Sem

/-- The kernel as it stands and the plain program leave the same results. -/
theorem nan : @Cert.algebraic_KernelIdeal_ReferenceIdeal_pre_finite Cert.KernelIdeal.Gen.facts
    Cert.ReferenceIdeal.Gen.facts finite_facts := by
  intro m g m' g' hpre hagree
  have hc : ∀ c i a, RunNan.cloud m c i a ≠ ⊥ ∧ RunNan.cloud m c i a ≠ ⊤ := fun c => finite_points _ _ (hpre c)
  have hX : ∀ c, Plain.pointsOf (PlainNan.arg m' c) = RunNan.cloud m c := fun c => by
    unfold PlainNan.arg Plain.pointsOf RunNan.cloud RunNan.arg
    rw [(hagree c).1]
  refine ⟨fun c I => BitVec.ofNat 32 (near (RunNan.cloud m c) (I 0) (I 1)).val,
    fun c I => pointNormal (RunNan.cloud m c) RunNan.bad (I 0) (I 1), ?_, ?_⟩
  · refine (θ_run Cert.KernelIdeal.defs _ _).mono (fun r h c => ?_) (RunNan.run m g)
    exact ⟨((h c).1 (hc c)).1, ((h c).1 (hc c)).2, (h c).2.1, (h c).2.2⟩
  · refine (θ_run Cert.ReferenceIdeal.defs _ _).mono (fun r h c => ?_) (PlainNan.run m' g')
    have h' := h c
    rw [hX c] at h'
    exact h'

/-- With the test written through the absolute value, the kernel and the plain program leave the same results. -/
theorem fin : @Cert.algebraic_KernelFinIdeal_ReferenceFinIdeal_pre_finite Cert.KernelFinIdeal.Gen.facts
    Cert.ReferenceFinIdeal.Gen.facts finite_facts := by
  intro m g m' g' hpre hagree
  have hc : ∀ c i a, RunFin.cloud m c i a ≠ ⊥ ∧ RunFin.cloud m c i a ≠ ⊤ := fun c => finite_points _ _ (hpre c)
  have hX : ∀ c, Plain.pointsOf (PlainFin.arg m' c) = RunFin.cloud m c := fun c => by
    unfold PlainFin.arg Plain.pointsOf RunFin.cloud RunFin.arg
    rw [(hagree c).1]
  refine ⟨fun c I => BitVec.ofNat 32 (near (RunFin.cloud m c) (I 0) (I 1)).val,
    fun c I => pointNormal (RunFin.cloud m c) RunFin.bad (I 0) (I 1), ?_, ?_⟩
  · refine (θ_run Cert.KernelFinIdeal.defs _ _).mono (fun r h c => ?_) (RunFin.run m g)
    exact ⟨((h c).1 (hc c)).1, ((h c).1 (hc c)).2, (h c).2.1, (h c).2.2⟩
  · refine (θ_run Cert.ReferenceFinIdeal.defs _ _).mono (fun r h c => ?_) (PlainFin.run m' g')
    have h' := h c
    rw [hX c] at h'
    exact h'

end Umbrella.Values

end
-- ==== Proof.lean ====
/- Proves `Cert.Claim`: the frames of every program and the values. -/
module

public import proofs.«01_k».proof.Defs
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts, Cert.KernelFin.Gen.facts,
    Cert.KernelFinIdeal.Gen.facts, Cert.ReferenceFinIdeal.Gen.facts, Umbrella.finite_facts,
    fun m ρ _ => Cert.Kernel.Gen.frame m ρ,
    fun m ρ _ => Cert.KernelIdeal.Gen.frame m ρ, fun m ρ _ => Cert.KernelIdeal.Gen.frame m ρ,
    Umbrella.Frames.reference, fun m ρ _ => Umbrella.Frames.reference m ρ trivial,
    fun m ρ _ => Cert.KernelFin.Gen.frame m ρ,
    fun m ρ _ => Cert.KernelFinIdeal.Gen.frame m ρ, fun m ρ _ => Cert.KernelFinIdeal.Gen.frame m ρ,
    Umbrella.Frames.referenceFin, fun m ρ _ => Umbrella.Frames.referenceFin m ρ trivial,
    trivial, Umbrella.Values.nan, trivial, Umbrella.Values.fin⟩

end Cert.Proof

end
